-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x128x64x64 : Shape := ⟨4, ![64, 128, 64, 64]⟩
abbrev S1x128x1x1 : Shape := ⟨4, ![1, 128, 1, 1]⟩
abbrev S64x128x4096 : Shape := ⟨3, ![64, 128, 4096]⟩
abbrev S128x1 : Shape := ⟨2, ![128, 1]⟩
abbrev S16x16x4096 : Shape := ⟨3, ![16, 16, 4096]⟩
abbrev S16x1 : Shape := ⟨2, ![16, 1]⟩
abbrev S128x16x4096 : Shape := ⟨3, ![128, 16, 4096]⟩
abbrev S16x4096 : Shape := ⟨2, ![16, 4096]⟩
abbrev S32x1 : Shape := ⟨2, ![32, 1]⟩
abbrev S16x1024 : Shape := ⟨2, ![16, 1024]⟩
abbrev S1x16x1024 : Shape := ⟨3, ![1, 16, 1024]⟩
abbrev S16x64 : Shape := ⟨2, ![16, 64]⟩

abbrev nBuf : Space → Nat
  | .hbm => 8
  | .vmem => 13
  | .smem => 0
  | _ => 0

abbrev bufTy : (tb : Table) → Fin (tcTables nBuf tb) → BufTy
  | .hbm, ⟨0, _⟩ => ⟨S64x128x64x64, .f32⟩
  | .hbm, ⟨1, _⟩ => ⟨S1x128x1x1, .f32⟩
  | .hbm, ⟨2, _⟩ => ⟨S1x128x1x1, .f32⟩
  | .hbm, ⟨3, _⟩ => ⟨S64x128x4096, .f32⟩
  | .hbm, ⟨4, _⟩ => ⟨S128x1, .f32⟩
  | .hbm, ⟨5, _⟩ => ⟨S128x1, .f32⟩
  | .hbm, ⟨6, _⟩ => ⟨S64x128x4096, .f32⟩
  | .hbm, ⟨7, _⟩ => ⟨S64x128x64x64, .f32⟩
  | .local _ .vmem, ⟨0, _⟩ => ⟨S16x16x4096, .f32⟩
  | .local _ .vmem, ⟨1, _⟩ => ⟨S16x16x4096, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S16x16x4096, .f32⟩
  | .local _ .vmem, ⟨7, _⟩ => ⟨S16x16x4096, .f32⟩
  | .local _ .vmem, ⟨8, _⟩ => ⟨S128x16x4096, .f32⟩
  | .local _ .vmem, ⟨9, _⟩ => ⟨S16x4096, .f32⟩
  | .local _ .vmem, ⟨10, _⟩ => ⟨S16x4096, .f32⟩
  | .local _ .vmem, ⟨11, _⟩ => ⟨S32x1, .f32⟩
  | .local _ .vmem, ⟨12, _⟩ => ⟨S16x1, .f32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 12], ![false, false]⟩

def k0_cond3 (i : grid0.Coords) : BitVec 1 :=
  let arg1 : BitVec 32 := BitVec.ofNat 32 (i 1).val
  let c8_i32 : BitVec 32 := 8#32
  let v11 : BitVec 1 := Scalar.cmpi .slt arg1 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v22 : BitVec 1 := Scalar.andi v11 v10
  let arg0 : BitVec 32 := BitVec.ofNat 32 (i 0).val
  let c8_i32_10 : BitVec 32 := 8#32
  let v23 : BitVec 1 := Scalar.cmpi .slt arg0 c8_i32_10
  let v24 : BitVec 1 := Scalar.andi v22 v23
  let v25 : BitVec 32 := Scalar.extui v24
  let c0_i32_11 : BitVec 32 := 0#32
  let v26 : BitVec 1 := Scalar.cmpi .ne v25 c0_i32_11
  v26

def k0_off1 (i : grid0.Coords) (c0_i32_38 : BitVec 32) : Fin 3 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c64_i32 : BitVec 32 := 64#32
  let v75 : BitVec 32 := Scalar.muli v74 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v76 : BitVec 32 := Scalar.muli v64 c16_i32
  let v77 : BitVec 32 := Scalar.addi v75 v76
  let v81 : BitVec 32 := Scalar.addi v77 c0_i32_38
  let v82 : Index := Scalar.indexCast v81
  let c0_39 : Index := 0#32
  let c0_40 : Index := 0#32
  ![v82.toNat, 0, 0]
def k0_off2 (i : grid0.Coords) (c0_i32_112 : BitVec 32) : Fin 3 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c64_i32 : BitVec 32 := 64#32
  let v75 : BitVec 32 := Scalar.muli v74 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v76 : BitVec 32 := Scalar.muli v64 c16_i32
  let v77 : BitVec 32 := Scalar.addi v75 v76
  let v245 : BitVec 32 := Scalar.addi v77 c0_i32_112
  let v246 : Index := Scalar.indexCast v245
  let c0_113 : Index := 0#32
  let c1024_114 : Index := 1024#32
  ![v246.toNat, 0, 1024]
def k0_off3 (i : grid0.Coords) (c0_i32_211 : BitVec 32) : Fin 3 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c64_i32 : BitVec 32 := 64#32
  let v75 : BitVec 32 := Scalar.muli v74 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v76 : BitVec 32 := Scalar.muli v64 c16_i32
  let v77 : BitVec 32 := Scalar.addi v75 v76
  let v409 : BitVec 32 := Scalar.addi v77 c0_i32_211
  let v410 : Index := Scalar.indexCast v409
  let c0_212 : Index := 0#32
  let c2048_213 : Index := 2048#32
  ![v410.toNat, 0, 2048]
def k0_off4 (i : grid0.Coords) (c0_i32_310 : BitVec 32) : Fin 3 → Nat :=
  let arg0 : BitVec 32 := BitVec.ofNat 32 (i 0).val
  let c2_i32_28 : BitVec 32 := 2#32
  let c0_i32_29 : BitVec 32 := 0#32
  let v65 : BitVec 1 := Scalar.cmpi .eq c2_i32_28 c0_i32_29
  let c1_i32_30 : BitVec 32 := 1#32
  let v66 : BitVec 32 := Scalar.select v65 c1_i32_30 c2_i32_28
  let v67 : BitVec 32 := Scalar.remsi arg0 v66
  let c0_i32_32 : BitVec 32 := 0#32
  let v69 : BitVec 1 := Scalar.cmpi .slt v67 c0_i32_32
  let c0_i32_33 : BitVec 32 := 0#32
  let v70 : BitVec 1 := Scalar.cmpi .slt v66 c0_i32_33
  let v71 : BitVec 1 := Scalar.xori v69 v70
  let c0_i32_31 : BitVec 32 := 0#32
  let v68 : BitVec 1 := Scalar.cmpi .ne v67 c0_i32_31
  let v72 : BitVec 1 := Scalar.andi v71 v68
  let v73 : BitVec 32 := Scalar.addi v67 v66
  let v74 : BitVec 32 := Scalar.select v72 v73 v67
  let c64_i32 : BitVec 32 := 64#32
  let v75 : BitVec 32 := Scalar.muli v74 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v76 : BitVec 32 := Scalar.muli v64 c16_i32
  let v77 : BitVec 32 := Scalar.addi v75 v76
  let v573 : BitVec 32 := Scalar.addi v77 c0_i32_310
  let v574 : Index := Scalar.indexCast v573
  let c0_311 : Index := 0#32
  let c3072_312 : Index := 3072#32
  ![v574.toNat, 0, 3072]
def k0_cond4 (i : grid0.Coords) : BitVec 1 :=
  let arg1 : BitVec 32 := BitVec.ofNat 32 (i 1).val
  let c6_i32 : BitVec 32 := 6#32
  let v27 : BitVec 1 := Scalar.cmpi .eq arg1 c6_i32
  let arg0 : BitVec 32 := BitVec.ofNat 32 (i 0).val
  let c8_i32_12 : BitVec 32 := 8#32
  let v28 : BitVec 1 := Scalar.cmpi .slt arg0 c8_i32_12
  let v29 : BitVec 1 := Scalar.andi v27 v28
  let v30 : BitVec 32 := Scalar.extui v29
  let c0_i32_13 : BitVec 32 := 0#32
  let v31 : BitVec 1 := Scalar.cmpi .ne v30 c0_i32_13
  v31

def k0_off5 (i : grid0.Coords) : Fin 2 → Nat :=
  let arg0 : BitVec 32 := BitVec.ofNat 32 (i 0).val
  let c2_i32_24 : BitVec 32 := 2#32
  let c0_i32_25 : BitVec 32 := 0#32
  let v567 : BitVec 1 := Scalar.cmpi .eq c2_i32_24 c0_i32_25
  let c1_i32_26 : BitVec 32 := 1#32
  let v568 : BitVec 32 := Scalar.select v567 c1_i32_26 c2_i32_24
  let v569 : BitVec 32 := Scalar.remsi arg0 v568
  let c0_i32_28 : BitVec 32 := 0#32
  let v571 : BitVec 1 := Scalar.cmpi .slt v569 c0_i32_28
  let c0_i32_29 : BitVec 32 := 0#32
  let v572 : BitVec 1 := Scalar.cmpi .slt v568 c0_i32_29
  let v573 : BitVec 1 := Scalar.xori v571 v572
  let c0_i32_27 : BitVec 32 := 0#32
  let v570 : BitVec 1 := Scalar.cmpi .ne v569 c0_i32_27
  let v574 : BitVec 1 := Scalar.andi v573 v570
  let v575 : BitVec 32 := Scalar.addi v569 v568
  let v576 : BitVec 32 := Scalar.select v574 v575 v569
  let c16_i32 : BitVec 32 := 16#32
  let v577 : BitVec 32 := Scalar.muli v576 c16_i32
  let v578 : Index := Scalar.indexCast v577
  let c0_30 : Index := 0#32
  ![v578.toNat, 0]
def k0_cond5 (i : grid0.Coords) : BitVec 1 :=
  let arg1 : BitVec 32 := BitVec.ofNat 32 (i 1).val
  let c8_i32 : BitVec 32 := 8#32
  let v11 : BitVec 1 := Scalar.cmpi .slt arg1 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v32 : BitVec 1 := Scalar.xori v10 v_true
  let v33 : BitVec 1 := Scalar.andi v11 v32
  let arg0 : BitVec 32 := BitVec.ofNat 32 (i 0).val
  let c0_i32_14 : BitVec 32 := 0#32
  let v34 : BitVec 1 := Scalar.cmpi .sgt arg0 c0_i32_14
  let v35 : BitVec 1 := Scalar.andi v33 v34
  let v36 : BitVec 32 := Scalar.extui v35
  let c0_i32_15 : BitVec 32 := 0#32
  let v37 : BitVec 1 := Scalar.cmpi .ne v36 c0_i32_15
  v37

def k0_off6 (i : grid0.Coords) : Fin 2 → Nat :=
  let arg0 : BitVec 32 := BitVec.ofNat 32 (i 0).val
  let c1_i32_35 : BitVec 32 := 1#32
  let v79 : BitVec 32 := Scalar.addi arg0 c1_i32_35
  let c2_i32_36 : BitVec 32 := 2#32
  let c0_i32_37 : BitVec 32 := 0#32
  let v80 : BitVec 1 := Scalar.cmpi .eq c2_i32_36 c0_i32_37
  let c1_i32_38 : BitVec 32 := 1#32
  let v81 : BitVec 32 := Scalar.select v80 c1_i32_38 c2_i32_36
  let v82 : BitVec 32 := Scalar.remsi v79 v81
  let c0_i32_40 : BitVec 32 := 0#32
  let v84 : BitVec 1 := Scalar.cmpi .slt v82 c0_i32_40
  let c0_i32_41 : BitVec 32 := 0#32
  let v85 : BitVec 1 := Scalar.cmpi .slt v81 c0_i32_41
  let v86 : BitVec 1 := Scalar.xori v84 v85
  let c0_i32_39 : BitVec 32 := 0#32
  let v83 : BitVec 1 := Scalar.cmpi .ne v82 c0_i32_39
  let v87 : BitVec 1 := Scalar.andi v86 v83
  let v88 : BitVec 32 := Scalar.addi v82 v81
  let v89 : BitVec 32 := Scalar.select v87 v88 v82
  let c16_i32_42 : BitVec 32 := 16#32
  let v90 : BitVec 32 := Scalar.muli v89 c16_i32_42
  let v91 : Index := Scalar.indexCast v90
  let c0 : Index := 0#32
  ![v91.toNat, 0]
def k0_off7 (i : grid0.Coords) (c0_i32_45 : BitVec 32) : Fin 3 → Nat :=
  let arg0 : BitVec 32 := BitVec.ofNat 32 (i 0).val
  let c1_i32_28 : BitVec 32 := 1#32
  let v65 : BitVec 32 := Scalar.addi arg0 c1_i32_28
  let c2_i32_29 : BitVec 32 := 2#32
  let c0_i32_30 : BitVec 32 := 0#32
  let v66 : BitVec 1 := Scalar.cmpi .eq c2_i32_29 c0_i32_30
  let c1_i32_31 : BitVec 32 := 1#32
  let v67 : BitVec 32 := Scalar.select v66 c1_i32_31 c2_i32_29
  let v68 : BitVec 32 := Scalar.remsi v65 v67
  let c0_i32_33 : BitVec 32 := 0#32
  let v70 : BitVec 1 := Scalar.cmpi .slt v68 c0_i32_33
  let c0_i32_34 : BitVec 32 := 0#32
  let v71 : BitVec 1 := Scalar.cmpi .slt v67 c0_i32_34
  let v72 : BitVec 1 := Scalar.xori v70 v71
  let c0_i32_32 : BitVec 32 := 0#32
  let v69 : BitVec 1 := Scalar.cmpi .ne v68 c0_i32_32
  let v73 : BitVec 1 := Scalar.andi v72 v69
  let v74 : BitVec 32 := Scalar.addi v68 v67
  let v75 : BitVec 32 := Scalar.select v73 v74 v68
  let c64_i32 : BitVec 32 := 64#32
  let v76 : BitVec 32 := Scalar.muli v75 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v77 : BitVec 32 := Scalar.muli v64 c16_i32
  let v78 : BitVec 32 := Scalar.addi v76 v77
  let v94 : BitVec 32 := Scalar.addi v78 c0_i32_45
  let v95 : Index := Scalar.indexCast v94
  let c0_46 : Index := 0#32
  let c0_47 : Index := 0#32
  ![v95.toNat, 0, 0]
def k0_off8 (i : grid0.Coords) (c0_i32_134 : BitVec 32) : Fin 3 → Nat :=
  let arg0 : BitVec 32 := BitVec.ofNat 32 (i 0).val
  let c1_i32_28 : BitVec 32 := 1#32
  let v65 : BitVec 32 := Scalar.addi arg0 c1_i32_28
  let c2_i32_29 : BitVec 32 := 2#32
  let c0_i32_30 : BitVec 32 := 0#32
  let v66 : BitVec 1 := Scalar.cmpi .eq c2_i32_29 c0_i32_30
  let c1_i32_31 : BitVec 32 := 1#32
  let v67 : BitVec 32 := Scalar.select v66 c1_i32_31 c2_i32_29
  let v68 : BitVec 32 := Scalar.remsi v65 v67
  let c0_i32_33 : BitVec 32 := 0#32
  let v70 : BitVec 1 := Scalar.cmpi .slt v68 c0_i32_33
  let c0_i32_34 : BitVec 32 := 0#32
  let v71 : BitVec 1 := Scalar.cmpi .slt v67 c0_i32_34
  let v72 : BitVec 1 := Scalar.xori v70 v71
  let c0_i32_32 : BitVec 32 := 0#32
  let v69 : BitVec 1 := Scalar.cmpi .ne v68 c0_i32_32
  let v73 : BitVec 1 := Scalar.andi v72 v69
  let v74 : BitVec 32 := Scalar.addi v68 v67
  let v75 : BitVec 32 := Scalar.select v73 v74 v68
  let c64_i32 : BitVec 32 := 64#32
  let v76 : BitVec 32 := Scalar.muli v75 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v77 : BitVec 32 := Scalar.muli v64 c16_i32
  let v78 : BitVec 32 := Scalar.addi v76 v77
  let v402 : BitVec 32 := Scalar.addi v78 c0_i32_134
  let v403 : Index := Scalar.indexCast v402
  let c0_135 : Index := 0#32
  let c1024_136 : Index := 1024#32
  ![v403.toNat, 0, 1024]
def k0_off9 (i : grid0.Coords) (c0_i32_233 : BitVec 32) : Fin 3 → Nat :=
  let arg0 : BitVec 32 := BitVec.ofNat 32 (i 0).val
  let c1_i32_28 : BitVec 32 := 1#32
  let v65 : BitVec 32 := Scalar.addi arg0 c1_i32_28
  let c2_i32_29 : BitVec 32 := 2#32
  let c0_i32_30 : BitVec 32 := 0#32
  let v66 : BitVec 1 := Scalar.cmpi .eq c2_i32_29 c0_i32_30
  let c1_i32_31 : BitVec 32 := 1#32
  let v67 : BitVec 32 := Scalar.select v66 c1_i32_31 c2_i32_29
  let v68 : BitVec 32 := Scalar.remsi v65 v67
  let c0_i32_33 : BitVec 32 := 0#32
  let v70 : BitVec 1 := Scalar.cmpi .slt v68 c0_i32_33
  let c0_i32_34 : BitVec 32 := 0#32
  let v71 : BitVec 1 := Scalar.cmpi .slt v67 c0_i32_34
  let v72 : BitVec 1 := Scalar.xori v70 v71
  let c0_i32_32 : BitVec 32 := 0#32
  let v69 : BitVec 1 := Scalar.cmpi .ne v68 c0_i32_32
  let v73 : BitVec 1 := Scalar.andi v72 v69
  let v74 : BitVec 32 := Scalar.addi v68 v67
  let v75 : BitVec 32 := Scalar.select v73 v74 v68
  let c64_i32 : BitVec 32 := 64#32
  let v76 : BitVec 32 := Scalar.muli v75 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v77 : BitVec 32 := Scalar.muli v64 c16_i32
  let v78 : BitVec 32 := Scalar.addi v76 v77
  let v710 : BitVec 32 := Scalar.addi v78 c0_i32_233
  let v711 : Index := Scalar.indexCast v710
  let c0_234 : Index := 0#32
  let c2048_235 : Index := 2048#32
  ![v711.toNat, 0, 2048]
def k0_off10 (i : grid0.Coords) (c0_i32_332 : BitVec 32) : Fin 3 → Nat :=
  let arg0 : BitVec 32 := BitVec.ofNat 32 (i 0).val
  let c1_i32_28 : BitVec 32 := 1#32
  let v65 : BitVec 32 := Scalar.addi arg0 c1_i32_28
  let c2_i32_29 : BitVec 32 := 2#32
  let c0_i32_30 : BitVec 32 := 0#32
  let v66 : BitVec 1 := Scalar.cmpi .eq c2_i32_29 c0_i32_30
  let c1_i32_31 : BitVec 32 := 1#32
  let v67 : BitVec 32 := Scalar.select v66 c1_i32_31 c2_i32_29
  let v68 : BitVec 32 := Scalar.remsi v65 v67
  let c0_i32_33 : BitVec 32 := 0#32
  let v70 : BitVec 1 := Scalar.cmpi .slt v68 c0_i32_33
  let c0_i32_34 : BitVec 32 := 0#32
  let v71 : BitVec 1 := Scalar.cmpi .slt v67 c0_i32_34
  let v72 : BitVec 1 := Scalar.xori v70 v71
  let c0_i32_32 : BitVec 32 := 0#32
  let v69 : BitVec 1 := Scalar.cmpi .ne v68 c0_i32_32
  let v73 : BitVec 1 := Scalar.andi v72 v69
  let v74 : BitVec 32 := Scalar.addi v68 v67
  let v75 : BitVec 32 := Scalar.select v73 v74 v68
  let c64_i32 : BitVec 32 := 64#32
  let v76 : BitVec 32 := Scalar.muli v75 c64_i32
  let arg1 : BitVec 32 := BitVec.ofNat 32 (i 1).val
  let c0_i32_22 : BitVec 32 := 0#32
  let v49 : BitVec 1 := Scalar.cmpi .sgt arg1 c0_i32_22
  let v50 : BitVec 32 := Scalar.extui v49
  let c0_i32_23 : BitVec 32 := 0#32
  let v51 : BitVec 1 := Scalar.cmpi .slt arg1 c0_i32_23
  let v52 : BitVec 32 := Scalar.extui v51
  let v53 : BitVec 32 := Scalar.subi v50 v52
  let c2_i32_21 : BitVec 32 := 2#32
  let c0_i32_24 : BitVec 32 := 0#32
  let v54 : BitVec 1 := Scalar.cmpi .sgt c2_i32_21 c0_i32_24
  let v55 : BitVec 32 := Scalar.extui v54
  let c0_i32_25 : BitVec 32 := 0#32
  let v56 : BitVec 1 := Scalar.cmpi .slt c2_i32_21 c0_i32_25
  let v57 : BitVec 32 := Scalar.extui v56
  let v58 : BitVec 32 := Scalar.subi v55 v57
  let v59 : BitVec 1 := Scalar.cmpi .ne v53 v58
  let v60 : BitVec 32 := Scalar.remsi arg1 c2_i32_21
  let c0_i32_26 : BitVec 32 := 0#32
  let v61 : BitVec 1 := Scalar.cmpi .ne v60 c0_i32_26
  let v62 : BitVec 1 := Scalar.andi v59 v61
  let v48 : BitVec 32 := Scalar.divsi arg1 c2_i32_21
  let c1_i32_27 : BitVec 32 := 1#32
  let v63 : BitVec 32 := Scalar.subi v48 c1_i32_27
  let v64 : BitVec 32 := Scalar.select v62 v63 v48
  let c16_i32 : BitVec 32 := 16#32
  let v77 : BitVec 32 := Scalar.muli v64 c16_i32
  let v78 : BitVec 32 := Scalar.addi v76 v77
  let v1018 : BitVec 32 := Scalar.addi v78 c0_i32_332
  let v1019 : Index := Scalar.indexCast v1018
  let c0_333 : Index := 0#32
  let c3072_334 : Index := 3072#32
  ![v1019.toNat, 0, 3072]
def k0_cond7 (i : grid0.Coords) : BitVec 1 :=
  let arg1 : BitVec 32 := BitVec.ofNat 32 (i 1).val
  let c8_i32_18 : BitVec 32 := 8#32
  let v43 : BitVec 1 := Scalar.cmpi .sge arg1 c8_i32_18
  let arg0 : BitVec 32 := BitVec.ofNat 32 (i 0).val
  let c0_i32_19 : BitVec 32 := 0#32
  let v44 : BitVec 1 := Scalar.cmpi .sgt arg0 c0_i32_19
  let v45 : BitVec 1 := Scalar.andi v43 v44
  let v46 : BitVec 32 := Scalar.extui v45
  let c0_i32_20 : BitVec 32 := 0#32
  let v47 : BitVec 1 := Scalar.cmpi .ne v46 c0_i32_20
  v47

def k0_off11 (i : grid0.Coords) (c0_i32_34 : BitVec 32) : Fin 3 → Nat :=
  let arg0 : BitVec 32 := BitVec.ofNat 32 (i 0).val
  let c1_i32_22 : BitVec 32 := 1#32
  let v49 : BitVec 32 := Scalar.addi arg0 c1_i32_22
  let c2_i32_23 : BitVec 32 := 2#32
  let c0_i32_24 : BitVec 32 := 0#32
  let v50 : BitVec 1 := Scalar.cmpi .eq c2_i32_23 c0_i32_24
  let c1_i32_25 : BitVec 32 := 1#32
  let v51 : BitVec 32 := Scalar.select v50 c1_i32_25 c2_i32_23
  let v52 : BitVec 32 := Scalar.remsi v49 v51
  let c0_i32_27 : BitVec 32 := 0#32
  let v54 : BitVec 1 := Scalar.cmpi .slt v52 c0_i32_27
  let c0_i32_28 : BitVec 32 := 0#32
  let v55 : BitVec 1 := Scalar.cmpi .slt v51 c0_i32_28
  let v56 : BitVec 1 := Scalar.xori v54 v55
  let c0_i32_26 : BitVec 32 := 0#32
  let v53 : BitVec 1 := Scalar.cmpi .ne v52 c0_i32_26
  let v57 : BitVec 1 := Scalar.andi v56 v53
  let v58 : BitVec 32 := Scalar.addi v52 v51
  let v59 : BitVec 32 := Scalar.select v57 v58 v52
  let c64_i32 : BitVec 32 := 64#32
  let v60 : BitVec 32 := Scalar.muli v59 c64_i32
  let arg1 : BitVec 32 := BitVec.ofNat 32 (i 1).val
  let c8_i32_21 : BitVec 32 := 8#32
  let v48 : BitVec 32 := Scalar.subi arg1 c8_i32_21
  let c16_i32 : BitVec 32 := 16#32
  let v61 : BitVec 32 := Scalar.muli v48 c16_i32
  let v62 : BitVec 32 := Scalar.addi v60 v61
  let v68 : BitVec 32 := Scalar.addi v62 c0_i32_34
  let v69 : Index := Scalar.indexCast v68
  let c0_35 : Index := 0#32
  let c0_36 : Index := 0#32
  ![v69.toNat, 0, 0]
def k0_off12 (i : grid0.Coords) (c0_i32_40 : BitVec 32) : Fin 3 → Nat :=
  let arg0 : BitVec 32 := BitVec.ofNat 32 (i 0).val
  let c1_i32_22 : BitVec 32 := 1#32
  let v49 : BitVec 32 := Scalar.addi arg0 c1_i32_22
  let c2_i32_23 : BitVec 32 := 2#32
  let c0_i32_24 : BitVec 32 := 0#32
  let v50 : BitVec 1 := Scalar.cmpi .eq c2_i32_23 c0_i32_24
  let c1_i32_25 : BitVec 32 := 1#32
  let v51 : BitVec 32 := Scalar.select v50 c1_i32_25 c2_i32_23
  let v52 : BitVec 32 := Scalar.remsi v49 v51
  let c0_i32_27 : BitVec 32 := 0#32
  let v54 : BitVec 1 := Scalar.cmpi .slt v52 c0_i32_27
  let c0_i32_28 : BitVec 32 := 0#32
  let v55 : BitVec 1 := Scalar.cmpi .slt v51 c0_i32_28
  let v56 : BitVec 1 := Scalar.xori v54 v55
  let c0_i32_26 : BitVec 32 := 0#32
  let v53 : BitVec 1 := Scalar.cmpi .ne v52 c0_i32_26
  let v57 : BitVec 1 := Scalar.andi v56 v53
  let v58 : BitVec 32 := Scalar.addi v52 v51
  let v59 : BitVec 32 := Scalar.select v57 v58 v52
  let c64_i32 : BitVec 32 := 64#32
  let v60 : BitVec 32 := Scalar.muli v59 c64_i32
  let arg1 : BitVec 32 := BitVec.ofNat 32 (i 1).val
  let c8_i32_21 : BitVec 32 := 8#32
  let v48 : BitVec 32 := Scalar.subi arg1 c8_i32_21
  let c16_i32 : BitVec 32 := 16#32
  let v61 : BitVec 32 := Scalar.muli v48 c16_i32
  let v62 : BitVec 32 := Scalar.addi v60 v61
  let v87 : BitVec 32 := Scalar.addi v62 c0_i32_40
  let v88 : Index := Scalar.indexCast v87
  let c0_41 : Index := 0#32
  let c1024 : Index := 1024#32
  ![v88.toNat, 0, 1024]
def k0_off13 (i : grid0.Coords) (c0_i32_45 : BitVec 32) : Fin 3 → Nat :=
  let arg0 : BitVec 32 := BitVec.ofNat 32 (i 0).val
  let c1_i32_22 : BitVec 32 := 1#32
  let v49 : BitVec 32 := Scalar.addi arg0 c1_i32_22
  let c2_i32_23 : BitVec 32 := 2#32
  let c0_i32_24 : BitVec 32 := 0#32
  let v50 : BitVec 1 := Scalar.cmpi .eq c2_i32_23 c0_i32_24
  let c1_i32_25 : BitVec 32 := 1#32
  let v51 : BitVec 32 := Scalar.select v50 c1_i32_25 c2_i32_23
  let v52 : BitVec 32 := Scalar.remsi v49 v51
  let c0_i32_27 : BitVec 32 := 0#32
  let v54 : BitVec 1 := Scalar.cmpi .slt v52 c0_i32_27
  let c0_i32_28 : BitVec 32 := 0#32
  let v55 : BitVec 1 := Scalar.cmpi .slt v51 c0_i32_28
  let v56 : BitVec 1 := Scalar.xori v54 v55
  let c0_i32_26 : BitVec 32 := 0#32
  let v53 : BitVec 1 := Scalar.cmpi .ne v52 c0_i32_26
  let v57 : BitVec 1 := Scalar.andi v56 v53
  let v58 : BitVec 32 := Scalar.addi v52 v51
  let v59 : BitVec 32 := Scalar.select v57 v58 v52
  let c64_i32 : BitVec 32 := 64#32
  let v60 : BitVec 32 := Scalar.muli v59 c64_i32
  let arg1 : BitVec 32 := BitVec.ofNat 32 (i 1).val
  let c8_i32_21 : BitVec 32 := 8#32
  let v48 : BitVec 32 := Scalar.subi arg1 c8_i32_21
  let c16_i32 : BitVec 32 := 16#32
  let v61 : BitVec 32 := Scalar.muli v48 c16_i32
  let v62 : BitVec 32 := Scalar.addi v60 v61
  let v106 : BitVec 32 := Scalar.addi v62 c0_i32_45
  let v107 : Index := Scalar.indexCast v106
  let c0_46 : Index := 0#32
  let c2048 : Index := 2048#32
  ![v107.toNat, 0, 2048]
def k0_off14 (i : grid0.Coords) (c0_i32_50 : BitVec 32) : Fin 3 → Nat :=
  let arg0 : BitVec 32 := BitVec.ofNat 32 (i 0).val
  let c1_i32_22 : BitVec 32 := 1#32
  let v49 : BitVec 32 := Scalar.addi arg0 c1_i32_22
  let c2_i32_23 : BitVec 32 := 2#32
  let c0_i32_24 : BitVec 32 := 0#32
  let v50 : BitVec 1 := Scalar.cmpi .eq c2_i32_23 c0_i32_24
  let c1_i32_25 : BitVec 32 := 1#32
  let v51 : BitVec 32 := Scalar.select v50 c1_i32_25 c2_i32_23
  let v52 : BitVec 32 := Scalar.remsi v49 v51
  let c0_i32_27 : BitVec 32 := 0#32
  let v54 : BitVec 1 := Scalar.cmpi .slt v52 c0_i32_27
  let c0_i32_28 : BitVec 32 := 0#32
  let v55 : BitVec 1 := Scalar.cmpi .slt v51 c0_i32_28
  let v56 : BitVec 1 := Scalar.xori v54 v55
  let c0_i32_26 : BitVec 32 := 0#32
  let v53 : BitVec 1 := Scalar.cmpi .ne v52 c0_i32_26
  let v57 : BitVec 1 := Scalar.andi v56 v53
  let v58 : BitVec 32 := Scalar.addi v52 v51
  let v59 : BitVec 32 := Scalar.select v57 v58 v52
  let c64_i32 : BitVec 32 := 64#32
  let v60 : BitVec 32 := Scalar.muli v59 c64_i32
  let arg1 : BitVec 32 := BitVec.ofNat 32 (i 1).val
  let c8_i32_21 : BitVec 32 := 8#32
  let v48 : BitVec 32 := Scalar.subi arg1 c8_i32_21
  let c16_i32 : BitVec 32 := 16#32
  let v61 : BitVec 32 := Scalar.muli v48 c16_i32
  let v62 : BitVec 32 := Scalar.addi v60 v61
  let v125 : BitVec 32 := Scalar.addi v62 c0_i32_50
  let v126 : Index := Scalar.indexCast v125
  let c0_51 : Index := 0#32
  let c3072 : Index := 3072#32
  ![v126.toNat, 0, 3072]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c2_i32 : BitVec 32 := 2#32
  let v1 : BitVec 32 := Scalar.divsi arg1 c2_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c3_i32_4 : BitVec 32 := 3#32
  let v19 : BitVec 32 := Scalar.select v0 c3_i32_4 v18
  let c7_i32 : BitVec 32 := 7#32
  let v20 : BitVec 32 := Scalar.minsi arg0 c7_i32
  let c0_i32_5 : BitVec 32 := 0#32
  let c0_i32_6 : BitVec 32 := 0#32
  ![v19.toNat, v20.toNat, c0_i32_5.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.subi arg1 c8_i32
  let c0_i32_0 : BitVec 32 := 0#32
  let v2 : BitVec 32 := Scalar.maxsi v1 c0_i32_0
  let c0_i32_1 : BitVec 32 := 0#32
  let v3 : BitVec 32 := Scalar.select v0 c0_i32_1 v2
  let c1_i32 : BitVec 32 := 1#32
  let v4 : BitVec 32 := Scalar.subi arg0 c1_i32
  let c0_i32_2 : BitVec 32 := 0#32
  let v5 : BitVec 32 := Scalar.maxsi v4 c0_i32_2
  let c0_i32_3 : BitVec 32 := 0#32
  let c0_i32_4 : BitVec 32 := 0#32
  ![v3.toNat, v5.toNat, c0_i32_3.toNat]

abbrev stage0_0 : Fin 2 → Memref sig .tc .vmem S16x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S64x128x64x64 : Shape := ⟨4, ![64, 128, 64, 64]⟩
abbrev S1x128x1x1 : Shape := ⟨4, ![1, 128, 1, 1]⟩
abbrev S_ : Shape := ⟨0, ![]⟩
abbrev S128x64x64 : Shape := ⟨3, ![128, 64, 64]⟩
abbrev S1x128x64x64 : Shape := ⟨4, ![1, 128, 64, 64]⟩
abbrev S64x1x128x64 : Shape := ⟨4, ![64, 1, 128, 64]⟩
abbrev S1x128x64 : Shape := ⟨3, ![1, 128, 64]⟩
abbrev S1x1x128x64 : Shape := ⟨4, ![1, 1, 128, 64]⟩
abbrev S1x128x1x64 : Shape := ⟨4, ![1, 128, 1, 64]⟩
abbrev S64x1x128x1 : Shape := ⟨4, ![64, 1, 128, 1]⟩
abbrev S1x128x1 : Shape := ⟨3, ![1, 128, 1]⟩
abbrev S1x1x128x1 : Shape := ⟨4, ![1, 1, 128, 1]⟩

abbrev nBuf : Space → Nat
  | .hbm => 157
  | .vmem => 0
  | .smem => 0
  | _ => 0

abbrev hbmTy0_0 (i : Nat) : BufTy := match i % 128 with
  | 0 => ⟨S64x128x64x64, .f32⟩
  | 1 => ⟨S1x128x1x1, .f32⟩
  | 2 => ⟨S1x128x1x1, .f32⟩
  | 3 => ⟨S_, .f32⟩
  | 4 => ⟨S128x64x64, .f32⟩
  | 5 => ⟨S_, .i32⟩
  | 6 => ⟨S64x128x64x64, .f32⟩
  | 7 => ⟨S_, .i32⟩
  | 8 => ⟨S128x64x64, .f32⟩
  | 9 => ⟨S_, .i32⟩
  | 10 => ⟨S_, .i1⟩
  | 11 => ⟨S_, .i32⟩
  | 12 => ⟨S_, .i32⟩
  | 13 => ⟨S_, .i32⟩
  | 14 => ⟨S1x128x64x64, .f32⟩
  | 15 => ⟨S128x64x64, .f32⟩
  | 16 => ⟨S128x64x64, .f32⟩
  | 17 => ⟨S128x64x64, .bf16⟩
  | 18 => ⟨S128x64x64, .f32⟩
  | 19 => ⟨S_, .i32⟩
  | 20 => ⟨S_, .i32⟩
  | 21 => ⟨S1x128x64x64, .f32⟩
  | 22 => ⟨S64x1x128x64, .f32⟩
  | 23 => ⟨S_, .f32⟩
  | 24 => ⟨S1x128x64, .f32⟩
  | 25 => ⟨S_, .i32⟩
  | 26 => ⟨S64x1x128x64, .f32⟩
  | 27 => ⟨S_, .i32⟩
  | 28 => ⟨S1x128x64, .f32⟩
  | 29 => ⟨S_, .i32⟩
  | 30 => ⟨S_, .i1⟩
  | 31 => ⟨S_, .i32⟩
  | 32 => ⟨S_, .i32⟩
  | 33 => ⟨S_, .i32⟩
  | 34 => ⟨S1x1x128x64, .f32⟩
  | 35 => ⟨S1x128x64, .f32⟩
  | 36 => ⟨S1x128x64, .f32⟩
  | 37 => ⟨S1x128x64, .bf16⟩
  | 38 => ⟨S1x128x64, .f32⟩
  | 39 => ⟨S_, .i32⟩
  | 40 => ⟨S_, .i32⟩
  | 41 => ⟨S1x128x1x64, .f32⟩
  | 42 => ⟨S64x1x128x1, .f32⟩
  | 43 => ⟨S_, .f32⟩
  | 44 => ⟨S1x128x1, .f32⟩
  | 45 => ⟨S_, .i32⟩
  | 46 => ⟨S64x1x128x1, .f32⟩
  | 47 => ⟨S_, .i32⟩
  | 48 => ⟨S1x128x1, .f32⟩
  | 49 => ⟨S_, .i32⟩
  | 50 => ⟨S_, .i1⟩
  | 51 => ⟨S_, .i32⟩
  | 52 => ⟨S_, .i32⟩
  | 53 => ⟨S_, .i32⟩
  | 54 => ⟨S1x1x128x1, .f32⟩
  | 55 => ⟨S1x128x1, .f32⟩
  | 56 => ⟨S1x128x1, .f32⟩
  | 57 => ⟨S1x128x1, .bf16⟩
  | 58 => ⟨S1x128x1, .f32⟩
  | 59 => ⟨S_, .i32⟩
  | 60 => ⟨S_, .i32⟩
  | 61 => ⟨S1x128x1x1, .f32⟩
  | 62 => ⟨S_, .f32⟩
  | 63 => ⟨S1x128x1x1, .f32⟩
  | 64 => ⟨S1x128x1x1, .f32⟩
  | 65 => ⟨S1x128x1x1, .bf16⟩
  | 66 => ⟨S1x128x1x1, .f32⟩
  | 67 => ⟨S1x128x1x1, .f32⟩
  | 68 => ⟨S64x128x64x64, .f32⟩
  | 69 => ⟨S64x128x64x64, .f32⟩
  | 70 => ⟨S64x128x64x64, .bf16⟩
  | 71 => ⟨S64x128x64x64, .f32⟩
  | 72 => ⟨S64x128x64x64, .f32⟩
  | 73 => ⟨S64x128x64x64, .bf16⟩
  | 74 => ⟨S64x128x64x64, .f32⟩
  | 75 => ⟨S_, .f32⟩
  | 76 => ⟨S128x64x64, .f32⟩
  | 77 => ⟨S_, .i32⟩
  | 78 => ⟨S64x128x64x64, .f32⟩
  | 79 => ⟨S_, .i32⟩
  | 80 => ⟨S128x64x64, .f32⟩
  | 81 => ⟨S_, .i32⟩
  | 82 => ⟨S_, .i1⟩
  | 83 => ⟨S_, .i32⟩
  | 84 => ⟨S_, .i32⟩
  | 85 => ⟨S_, .i32⟩
  | 86 => ⟨S1x128x64x64, .f32⟩
  | 87 => ⟨S128x64x64, .f32⟩
  | 88 => ⟨S128x64x64, .f32⟩
  | 89 => ⟨S128x64x64, .bf16⟩
  | 90 => ⟨S128x64x64, .f32⟩
  | 91 => ⟨S_, .i32⟩
  | 92 => ⟨S_, .i32⟩
  | 93 => ⟨S1x128x64x64, .f32⟩
  | 94 => ⟨S64x1x128x64, .f32⟩
  | 95 => ⟨S_, .f32⟩
  | 96 => ⟨S1x128x64, .f32⟩
  | 97 => ⟨S_, .i32⟩
  | 98 => ⟨S64x1x128x64, .f32⟩
  | 99 => ⟨S_, .i32⟩
  | 100 => ⟨S1x128x64, .f32⟩
  | 101 => ⟨S_, .i32⟩
  | 102 => ⟨S_, .i1⟩
  | 103 => ⟨S_, .i32⟩
  | 104 => ⟨S_, .i32⟩
  | 105 => ⟨S_, .i32⟩
  | 106 => ⟨S1x1x128x64, .f32⟩
  | 107 => ⟨S1x128x64, .f32⟩
  | 108 => ⟨S1x128x64, .f32⟩
  | 109 => ⟨S1x128x64, .bf16⟩
  | 110 => ⟨S1x128x64, .f32⟩
  | 111 => ⟨S_, .i32⟩
  | 112 => ⟨S_, .i32⟩
  | 113 => ⟨S1x128x1x64, .f32⟩
  | 114 => ⟨S64x1x128x1, .f32⟩
  | 115 => ⟨S_, .f32⟩
  | 116 => ⟨S1x128x1, .f32⟩
  | 117 => ⟨S_, .i32⟩
  | 118 => ⟨S64x1x128x1, .f32⟩
  | 119 => ⟨S_, .i32⟩
  | 120 => ⟨S1x128x1, .f32⟩
  | 121 => ⟨S_, .i32⟩
  | 122 => ⟨S_, .i1⟩
  | 123 => ⟨S_, .i32⟩
  | 124 => ⟨S_, .i32⟩
  | 125 => ⟨S_, .i32⟩
  | 126 => ⟨S1x1x128x1, .f32⟩
  | 127 => ⟨S1x128x1, .f32⟩
  | _ => ⟨S64x128x64x64, .f32⟩

abbrev hbmTy0_1 (i : Nat) : BufTy := match i % 128 with
  | 0 => ⟨S1x128x1, .f32⟩
  | 1 => ⟨S1x128x1, .bf16⟩
  | 2 => ⟨S1x128x1, .f32⟩
  | 3 => ⟨S_, .i32⟩
  | 4 => ⟨S_, .i32⟩
  | 5 => ⟨S1x128x1x1, .f32⟩
  | 6 => ⟨S_, .f32⟩
  | 7 => ⟨S1x128x1x1, .f32⟩
  | 8 => ⟨S1x128x1x1, .f32⟩
  | 9 => ⟨S1x128x1x1, .bf16⟩
  | 10 => ⟨S1x128x1x1, .f32⟩
  | 11 => ⟨S_, .f32⟩
  | 12 => ⟨S1x128x1x1, .f32⟩
  | 13 => ⟨S1x128x1x1, .f32⟩
  | 14 => ⟨S1x128x1x1, .f32⟩
  | 15 => ⟨S1x128x1x1, .bf16⟩
  | 16 => ⟨S1x128x1x1, .f32⟩
  | 17 => ⟨S64x128x64x64, .f32⟩
  | 18 => ⟨S64x128x64x64, .f32⟩
  | 19 => ⟨S64x128x64x64, .bf16⟩
  | 20 => ⟨S64x128x64x64, .f32⟩
  | 21 => ⟨S64x128x64x64, .f32⟩
  | 22 => ⟨S64x128x64x64, .f32⟩
  | 23 => ⟨S64x128x64x64, .bf16⟩
  | 24 => ⟨S64x128x64x64, .f32⟩
  | 25 => ⟨S64x128x64x64, .f32⟩
  | 26 => ⟨S64x128x64x64, .f32⟩
  | 27 => ⟨S64x128x64x64, .bf16⟩
  | 28 => ⟨S64x128x64x64, .f32⟩
  | _ => ⟨S64x128x64x64, .f32⟩

abbrev hbmTy (i : Nat) : BufTy := match i / 128 with
  | 0 => hbmTy0_0 i
  | 1 => hbmTy0_1 i
  | _ => ⟨S64x128x64x64, .f32⟩

abbrev bufTy : (tb : Table) → Fin (tcTables nBuf tb) → BufTy
  | .hbm, ⟨i, _⟩ => hbmTy i
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_while0c_c_15 : Ref sig .tc := ⟨.hbm, 9, rfl⟩
abbrev main_while0c_v55 : Ref sig .tc := ⟨.hbm, 10, rfl⟩
abbrev main_while0b_call0_c : Ref sig .tc := ⟨.hbm, 11, rfl⟩
abbrev main_while0b_call0_c_0 : Ref sig .tc := ⟨.hbm, 12, rfl⟩
abbrev main_while0b_call0_c_1 : Ref sig .tc := ⟨.hbm, 13, rfl⟩
abbrev main_while0b_call0_v0 : Ref sig .tc := ⟨.hbm, 14, rfl⟩
abbrev main_while0b_v55 : Ref sig .tc := ⟨.hbm, 15, rfl⟩
abbrev main_while0b_v56 : Ref sig .tc := ⟨.hbm, 16, rfl⟩
abbrev main_while0b_v57 : Ref sig .tc := ⟨.hbm, 17, rfl⟩
abbrev main_while0b_v58 : Ref sig .tc := ⟨.hbm, 18, rfl⟩
abbrev main_while0b_c_15 : Ref sig .tc := ⟨.hbm, 19, rfl⟩
abbrev main_while0b_v59 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_c_1 : Ref sig .tc := ⟨.hbm, 25, rfl⟩
abbrev main_v5_0 : Ref sig .tc := ⟨.hbm, 26, rfl⟩
abbrev main_v5_1 : Ref sig .tc := ⟨.hbm, 27, rfl⟩
abbrev main_v5_2 : Ref sig .tc := ⟨.hbm, 28, rfl⟩
abbrev main_while1c_c_15 : Ref sig .tc := ⟨.hbm, 29, rfl⟩
abbrev main_while1c_v55 : Ref sig .tc := ⟨.hbm, 30, rfl⟩
abbrev main_while1b_call1_c : Ref sig .tc := ⟨.hbm, 31, rfl⟩
abbrev main_while1b_call1_c_0 : Ref sig .tc := ⟨.hbm, 32, rfl⟩
abbrev main_while1b_call1_c_1 : Ref sig .tc := ⟨.hbm, 33, rfl⟩
abbrev main_while1b_call1_v0 : Ref sig .tc := ⟨.hbm, 34, rfl⟩
abbrev main_while1b_v55 : Ref sig .tc := ⟨.hbm, 35, rfl⟩
abbrev main_while1b_v56 : Ref sig .tc := ⟨.hbm, 36, rfl⟩
abbrev main_while1b_v57 : Ref sig .tc := ⟨.hbm, 37, rfl⟩
abbrev main_while1b_v58 : Ref sig .tc := ⟨.hbm, 38, rfl⟩
abbrev main_while1b_c_15 : Ref sig .tc := ⟨.hbm, 39, rfl⟩
abbrev main_while1b_v59 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_c_3 : Ref sig .tc := ⟨.hbm, 45, rfl⟩
abbrev main_v9_0 : Ref sig .tc := ⟨.hbm, 46, rfl⟩
abbrev main_v9_1 : Ref sig .tc := ⟨.hbm, 47, rfl⟩
abbrev main_v9_2 : Ref sig .tc := ⟨.hbm, 48, rfl⟩
abbrev main_while2c_c_15 : Ref sig .tc := ⟨.hbm, 49, rfl⟩
abbrev main_while2c_v55 : Ref sig .tc := ⟨.hbm, 50, rfl⟩
abbrev main_while2b_call2_c : Ref sig .tc := ⟨.hbm, 51, rfl⟩
abbrev main_while2b_call2_c_0 : Ref sig .tc := ⟨.hbm, 52, rfl⟩
abbrev main_while2b_call2_c_1 : Ref sig .tc := ⟨.hbm, 53, rfl⟩
abbrev main_while2b_call2_v0 : Ref sig .tc := ⟨.hbm, 54, rfl⟩
abbrev main_while2b_v55 : Ref sig .tc := ⟨.hbm, 55, rfl⟩
abbrev main_while2b_v56 : Ref sig .tc := ⟨.hbm, 56, rfl⟩
abbrev main_while2b_v57 : Ref sig .tc := ⟨.hbm, 57, rfl⟩
abbrev main_while2b_v58 : Ref sig .tc := ⟨.hbm, 58, rfl⟩
abbrev main_while2b_c_15 : Ref sig .tc := ⟨.hbm, 59, rfl⟩
abbrev main_while2b_v59 : Ref sig .tc := ⟨.hbm, 60, rfl⟩
abbrev main_v10 : Ref sig .tc := ⟨.hbm, 61, rfl⟩
abbrev main_cst_4 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_5 : Ref sig .tc := ⟨.hbm, 75, rfl⟩
abbrev main_v23 : Ref sig .tc := ⟨.hbm, 76, rfl⟩
abbrev main_c_6 : Ref sig .tc := ⟨.hbm, 77, rfl⟩
abbrev main_v24_0 : Ref sig .tc := ⟨.hbm, 78, rfl⟩
abbrev main_v24_1 : Ref sig .tc := ⟨.hbm, 79, rfl⟩
abbrev main_v24_2 : Ref sig .tc := ⟨.hbm, 80, rfl⟩
abbrev main_while3c_c_15 : Ref sig .tc := ⟨.hbm, 81, rfl⟩
abbrev main_while3c_v55 : Ref sig .tc := ⟨.hbm, 82, rfl⟩
abbrev main_while3b_call3_c : Ref sig .tc := ⟨.hbm, 83, rfl⟩
abbrev main_while3b_call3_c_0 : Ref sig .tc := ⟨.hbm, 84, rfl⟩
abbrev main_while3b_call3_c_1 : Ref sig .tc := ⟨.hbm, 85, rfl⟩
abbrev main_while3b_call3_v0 : Ref sig .tc := ⟨.hbm, 86, rfl⟩
abbrev main_while3b_v55 : Ref sig .tc := ⟨.hbm, 87, rfl⟩
abbrev main_while3b_v56 : Ref sig .tc := ⟨.hbm, 88, rfl⟩
abbrev main_while3b_v57 : Ref sig .tc := ⟨.hbm, 89, rfl⟩
abbrev main_while3b_v58 : Ref sig .tc := ⟨.hbm, 90, rfl⟩
abbrev main_while3b_c_15 : Ref sig .tc := ⟨.hbm, 91, rfl⟩
abbrev main_while3b_v59 : Ref sig .tc := ⟨.hbm, 92, rfl⟩
abbrev main_v25 : Ref sig .tc := ⟨.hbm, 93, rfl⟩
abbrev main_v26 : Ref sig .tc := ⟨.hbm, 94, rfl⟩
abbrev main_cst_7 : Ref sig .tc := ⟨.hbm, 95, rfl⟩
abbrev main_v27 : Ref sig .tc := ⟨.hbm, 96, rfl⟩
abbrev main_c_8 : Ref sig .tc := ⟨.hbm, 97, rfl⟩
abbrev main_v28_0 : Ref sig .tc := ⟨.hbm, 98, rfl⟩
abbrev main_v28_1 : Ref sig .tc := ⟨.hbm, 99, rfl⟩
abbrev main_v28_2 : Ref sig .tc := ⟨.hbm, 100, rfl⟩
abbrev main_while4c_c_15 : Ref sig .tc := ⟨.hbm, 101, rfl⟩
abbrev main_while4c_v55 : Ref sig .tc := ⟨.hbm, 102, rfl⟩
abbrev main_while4b_call4_c : Ref sig .tc := ⟨.hbm, 103, rfl⟩
abbrev main_while4b_call4_c_0 : Ref sig .tc := ⟨.hbm, 104, rfl⟩
abbrev main_while4b_call4_c_1 : Ref sig .tc := ⟨.hbm, 105, rfl⟩
abbrev main_while4b_call4_v0 : Ref sig .tc := ⟨.hbm, 106, rfl⟩
abbrev main_while4b_v55 : Ref sig .tc := ⟨.hbm, 107, rfl⟩
abbrev main_while4b_v56 : Ref sig .tc := ⟨.hbm, 108, rfl⟩
abbrev main_while4b_v57 : Ref sig .tc := ⟨.hbm, 109, rfl⟩
abbrev main_while4b_v58 : Ref sig .tc := ⟨.hbm, 110, rfl⟩
abbrev main_while4b_c_15 : Ref sig .tc := ⟨.hbm, 111, rfl⟩
abbrev main_while4b_v59 : Ref sig .tc := ⟨.hbm, 112, rfl⟩
abbrev main_v29 : Ref sig .tc := ⟨.hbm, 113, rfl⟩
abbrev main_v30 : Ref sig .tc := ⟨.hbm, 114, rfl⟩
abbrev main_cst_9 : Ref sig .tc := ⟨.hbm, 115, rfl⟩
abbrev main_v31 : Ref sig .tc := ⟨.hbm, 116, rfl⟩
abbrev main_c_10 : Ref sig .tc := ⟨.hbm, 117, rfl⟩
abbrev main_v32_0 : Ref sig .tc := ⟨.hbm, 118, rfl⟩
abbrev main_v32_1 : Ref sig .tc := ⟨.hbm, 119, rfl⟩
abbrev main_v32_2 : Ref sig .tc := ⟨.hbm, 120, rfl⟩
abbrev main_while5c_c_15 : Ref sig .tc := ⟨.hbm, 121, rfl⟩
abbrev main_while5c_v55 : Ref sig .tc := ⟨.hbm, 122, rfl⟩
abbrev main_while5b_call5_c : Ref sig .tc := ⟨.hbm, 123, rfl⟩
abbrev main_while5b_call5_c_0 : Ref sig .tc := ⟨.hbm, 124, rfl⟩
abbrev main_while5b_call5_c_1 : Ref sig .tc := ⟨.hbm, 125, rfl⟩
abbrev main_while5b_call5_v0 : Ref sig .tc := ⟨.hbm, 126, rfl⟩
abbrev main_while5b_v55 : Ref sig .tc := ⟨.hbm, 127, rfl⟩
abbrev main_while5b_v56 : Ref sig .tc := ⟨.hbm, 128, rfl⟩
abbrev main_while5b_v57 : Ref sig .tc := ⟨.hbm, 129, rfl⟩
abbrev main_while5b_v58 : Ref sig .tc := ⟨.hbm, 130, rfl⟩
abbrev main_while5b_c_15 : Ref sig .tc := ⟨.hbm, 131, rfl⟩
abbrev main_while5b_v59 : Ref sig .tc := ⟨.hbm, 132, rfl⟩
abbrev main_v33 : Ref sig .tc := ⟨.hbm, 133, rfl⟩
abbrev main_cst_11 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_cst_12 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩

abbrev main_while2_count : Scf.Loop 32 := ⟨0#32, 64#32, 1#32⟩

abbrev main_while3_count : Scf.Loop 32 := ⟨0#32, 64#32, 1#32⟩

abbrev main_while4_count : Scf.Loop 32 := ⟨0#32, 64#32, 1#32⟩

abbrev main_while5_count : Scf.Loop 32 := ⟨0#32, 64#32, 1#32⟩
-- ==== Proof.Phases.lean ====
/-
  The kernel's phases, written as loops.

  The kernel's body is straight-line code: four chunks of 1024 lanes, each sixteen rows, written
  out one after another. Here the same statements are written once, as a loop over the chunks
  and a loop over the rows, over any buffers of the kernel's shapes. The modules `KernelIdealBody`
  and `KernelBody` state that the printed bodies are these loops.
-/
module

public import Idealize.ShloMosaic.Lib.Pipeline
public import Idealize.ShloMosaic.PureOps

@[expose] public section

noncomputable section

namespace Cert.Bn

open Idealize.ShloMosaic Idealize.SL.Sem

/-- A window of x or of the result: 16 images of 16 channels, 4096 lanes. -/
abbrev SBlk : Shape := ⟨3, ![16, 16, 4096]⟩
/-- The kept copy of two channel groups of x: 128 rows. -/
abbrev SBuf : Shape := ⟨3, ![128, 16, 4096]⟩
/-- An accumulator: 16 channels, 4096 lanes. -/
abbrev SAcc : Shape := ⟨2, ![16, 4096]⟩
/-- One row of one chunk. -/
abbrev SRow : Shape := ⟨3, ![1, 16, 1024]⟩
/-- One chunk of an accumulator. -/
abbrev SChk : Shape := ⟨2, ![16, 1024]⟩
/-- The sums over the image rows. -/
abbrev SLan : Shape := ⟨2, ![16, 64]⟩
/-- One number per channel. -/
abbrev SCol : Shape := ⟨2, ![16, 1]⟩
/-- The means of two channel groups. -/
abbrev STwo : Shape := ⟨2, ![32, 1]⟩

variable {F : FTy → Type} [FloatOps F]

/-- The rounding's format is narrower than the values'. -/
theorem bits_lt : FTy.bits .bf16 < FTy.bits .f32 := by decide
/-- A row of the buffer has an entry. -/
theorem pos_row : 0 < SRow.numel := by decide
/-- A chunk has an entry. -/
theorem pos_chk : 0 < SChk.numel := by decide
/-- An accumulator has an entry. -/
theorem pos_acc : 0 < SAcc.numel := by decide
/-- A column has an entry. -/
theorem pos_col : 0 < SCol.numel := by decide
/-- A row has as many entries as a chunk. -/
theorem row_chk : SRow.ShapeCasts SChk := by decide
/-- A chunk has as many entries as a row. -/
theorem chk_row : SChk.ShapeCasts SRow := by decide
/-- A chunk has as many entries as itself. -/
theorem chk_chk : SChk.ShapeCasts SChk := by decide
/-- An accumulator has as many entries as itself. -/
theorem acc_acc : SAcc.ShapeCasts SAcc := by decide
/-- A column has as many entries as itself. -/
theorem col_col : SCol.ShapeCasts SCol := by decide
/-- A column spreads over a chunk. -/
theorem col_chk : SCol.Broadcasts SChk := by decide
/-- The 64 lanes of row `h` lie in an accumulator. -/
theorem slice_lan (h : Fin 64) : SAcc.Slices ![0, 64 * h.val] SLan := by revert h; decide
/-- Each lane of a row is a column of it. -/
theorem slice_col (w : Fin 64) : SLan.Slices ![0, w.val] SCol := by revert w; decide
/-- Each chunk of each image lies in a block. -/
theorem in_blk (r : Fin 16) (j : Fin 4) (a : Fin 3) : (![r.val, 0, 1024 * j.val] : Fin 3 → ℕ) a + SRow.size a ≤ SBlk.size a := by
  revert r j a; decide
/-- Each chunk lies in an accumulator. -/
theorem in_acc (j : Fin 4) (a : Fin 2) : (![0, 1024 * j.val] : Fin 2 → ℕ) a + SChk.size a ≤ SAcc.size a := by
  revert j a; decide
/-- The whole accumulator lies in itself. -/
theorem all_acc (a : Fin 2) : (![0, 0] : Fin 2 → ℕ) a + SAcc.size a ≤ SAcc.size a := by revert a; decide
/-- The whole column lies in itself. -/
theorem all_col (a : Fin 2) : (![0, 0] : Fin 2 → ℕ) a + SCol.size a ≤ SCol.size a := by revert a; decide

/-- Rounding to bf16 and back, at every place of a vector. -/
def quant {s : Shape} (v : FVec F s .f32) : FVec F s .f32 := extf .f32 (truncf .bf16 v bits_lt) bits_lt

/-- `n` steps of a program that hands a value on, in order. -/
def loop {Ef : Type → Type} {α : Type} : (n : ℕ) → (Fin n → α → Prog Ef α) → α → Prog Ef α
  | 0, _, a => pure a
  | n + 1, f, a => f 0 a >>= loop n fun k => f k.succ

/-- `n` steps of a function, in order. -/
def steps {α : Type} : (n : ℕ) → (Fin n → α → α) → α → α
  | 0, _, a => a
  | n + 1, f, a => f (Fin.last n) (steps n (fun k => f k.castSucc) a)

section
variable {nD : ℕ} {τ : Topo} {sig : RefSig} {Λ : Labels}

/-- Where a phase finds row `r` of chunk `j` in the kept copy, with the evidence that it lies inside. -/
structure Place where
  off : Fin 4 → Fin 16 → Fin 3 → ℕ
  inb : ∀ j r a, off j r a + SRow.size a ≤ SBuf.size a

/-- Four families of offsets, one a chunk. -/
def four (o0 o1 o2 o3 : Fin 16 → Fin 3 → ℕ) : Fin 4 → Fin 16 → Fin 3 → ℕ
  | 0 => o0 | 1 => o1 | 2 => o2 | 3 => o3

/-- Zero the accumulator. -/
def clear (m : Memref sig .tc .vmem SAcc .f32) : Prog (TpuEff nD τ sig (Elt F) Λ .tc) PUnit := do
  let _ ← Prog.lift (.load m (Rect.unit (s := SAcc) ![0, 0] SAcc.size all_acc).toLoadRect (View.loadsAt_vmem pos_acc))
  Prog.lift (.store m (Rect.unit (s := SAcc) ![0, 0] SAcc.size all_acc)
    (shapeCast SAcc (broadcast SAcc (Scalar.ofBits .f32 0x00000000#32 : F .f32)) acc_acc) Finset.univ (View.stores_vmem_bits_univ pos_acc rfl) (.inl rfl))

/-- Copy one row of a window of x and add it to the running chunk. -/
def copyRow (x : Memref sig .tc .vmem SBlk .f32) (xb : Memref sig .tc .vmem SBuf .f32) (P : Place) (j : Fin 4) (r : Fin 16)
    (acc : FVec F SChk .f32) : Prog (TpuEff nD τ sig (Elt F) Λ .tc) (FVec F SChk .f32) := do
  let v : Vec F SRow .f32 ← Prog.lift (.load x (Rect.unit (s := SBlk) ![r.val, 0, 1024 * j.val] SRow.size (in_blk r j)).toLoadRect (View.loadsAt_vmem pos_row))
  let _ ← Prog.lift (.load xb (Rect.unit (s := SBuf) (P.off j r) SRow.size (P.inb j r)).toLoadRect (View.loadsAt_vmem pos_row))
  Prog.lift (.store xb (Rect.unit (s := SBuf) (P.off j r) SRow.size (P.inb j r))
    (shapeCast SRow (shapeCast SChk v row_chk) chk_row) Finset.univ (View.stores_vmem_bits_univ pos_row rfl) (.inl rfl))
  pure (quant (addf acc (shapeCast SChk v row_chk)))

/-- Run `row` over the sixteen rows of chunk `j`, on the accumulator's chunk. -/
def chunk (acc : Memref sig .tc .vmem SAcc .f32)
    (row : Fin 4 → Fin 16 → FVec F SChk .f32 → Prog (TpuEff nD τ sig (Elt F) Λ .tc) (FVec F SChk .f32)) (j : Fin 4) :
    Prog (TpuEff nD τ sig (Elt F) Λ .tc) PUnit := do
  let a : Vec F SChk .f32 ← Prog.lift (.load acc (Rect.unit (s := SAcc) ![0, 1024 * j.val] SChk.size (in_acc j)).toLoadRect (View.loadsAt_vmem pos_chk))
  let b ← loop 16 (row j) a
  let _ ← Prog.lift (.load acc (Rect.unit (s := SAcc) ![0, 1024 * j.val] SChk.size (in_acc j)).toLoadRect (View.loadsAt_vmem pos_chk))
  Prog.lift (.store acc (Rect.unit (s := SAcc) ![0, 1024 * j.val] SChk.size (in_acc j))
    (shapeCast SChk b chk_chk) Finset.univ (View.stores_vmem_bits_univ pos_chk rfl) (.inl rfl))

/-- Copy a window of x into the kept copy and add its rows to the accumulator. -/
def copyPhase (x : Memref sig .tc .vmem SBlk .f32) (xb : Memref sig .tc .vmem SBuf .f32) (acc : Memref sig .tc .vmem SAcc .f32) (P : Place) :
    Prog (TpuEff nD τ sig (Elt F) Λ .tc) PUnit :=
  loop 4 (fun j _ => chunk acc (copyRow x xb P) j) ⟨⟩

/-- The sum of an accumulator over the image rows, then over the image columns, divided by the count. -/
def average (v : FVec F SAcc .f32) : FVec F SCol .f32 :=
  quant (divf
    (steps 64 (fun w a => quant (addf a (extractStridedSlice SCol ![0, w.val]
        (steps 64 (fun h a => quant (addf a (extractStridedSlice SLan ![0, 64 * h.val] v (slice_lan h))))
          (broadcast SLan (Scalar.ofBits .f32 0x00000000#32 : F .f32))) (slice_col w))))
      (broadcast SCol (Scalar.ofBits .f32 0x00000000#32 : F .f32)))
    (broadcast SCol (Scalar.ofBits .f32 0x48800000#32 : F .f32)))

/-- Write the accumulator's average at its place among the means. -/
def meanPhase (acc : Memref sig .tc .vmem SAcc .f32) (ms : Memref sig .tc .vmem STwo .f32) (o : Fin 2 → ℕ)
    (ho : ∀ a, o a + SCol.size a ≤ STwo.size a) : Prog (TpuEff nD τ sig (Elt F) Λ .tc) PUnit := do
  let v : Vec F SAcc .f32 ← Prog.lift (.load acc (Rect.unit (s := SAcc) ![0, 0] SAcc.size all_acc).toLoadRect (View.loadsAt_vmem pos_acc))
  let _ ← Prog.lift (.load ms (Rect.unit (s := STwo) o SCol.size ho).toLoadRect (View.loadsAt_vmem pos_col))
  Prog.lift (.store ms (Rect.unit (s := STwo) o SCol.size ho) (shapeCast SCol (average v) col_col) Finset.univ
    (View.stores_vmem_bits_univ pos_col rfl) (.inl rfl))

/-- Subtract the mean from one kept row, keep the difference, and add its square to the running chunk. -/
def centreRow (xb : Memref sig .tc .vmem SBuf .f32) (P : Place) (mu : FVec F SCol .f32) (j : Fin 4) (r : Fin 16)
    (acc : FVec F SChk .f32) : Prog (TpuEff nD τ sig (Elt F) Λ .tc) (FVec F SChk .f32) := do
  let v : Vec F SRow .f32 ← Prog.lift (.load xb (Rect.unit (s := SBuf) (P.off j r) SRow.size (P.inb j r)).toLoadRect (View.loadsAt_vmem pos_row))
  let _ ← Prog.lift (.load xb (Rect.unit (s := SBuf) (P.off j r) SRow.size (P.inb j r)).toLoadRect (View.loadsAt_vmem pos_row))
  Prog.lift (.store xb (Rect.unit (s := SBuf) (P.off j r) SRow.size (P.inb j r))
    (shapeCast SRow (quant (subf (shapeCast SChk v row_chk) (broadcastTo SChk mu col_chk))) chk_row) Finset.univ
    (View.stores_vmem_bits_univ pos_row rfl) (.inl rfl))
  pure (quant (addf acc (quant (mulf (quant (subf (shapeCast SChk v row_chk) (broadcastTo SChk mu col_chk)))
    (quant (subf (shapeCast SChk v row_chk) (broadcastTo SChk mu col_chk)))))))

/-- Centre sixteen kept rows and add their squares to the accumulator. -/
def centrePhase (xb : Memref sig .tc .vmem SBuf .f32) (acc : Memref sig .tc .vmem SAcc .f32) (ms : Memref sig .tc .vmem STwo .f32)
    (P : Place) (o : Fin 2 → ℕ) (ho : ∀ a, o a + SCol.size a ≤ STwo.size a) : Prog (TpuEff nD τ sig (Elt F) Λ .tc) PUnit := do
  let mu : Vec F SCol .f32 ← Prog.lift (.load ms (Rect.unit (s := STwo) o SCol.size ho).toLoadRect (View.loadsAt_vmem pos_col))
  loop 4 (fun j _ => chunk acc (centreRow xb P mu) j) ⟨⟩

/-- One over the rounded root of the variance plus the small constant. -/
def recip (v : FVec F SAcc .f32) : FVec F SCol .f32 :=
  divf (broadcast SCol (Scalar.ofBits .f32 0x3F800000#32 : F .f32))
    (quant (sqrt (addf (average v) (broadcast SCol (Scalar.ofBits .f32 0x3727C5AC#32 : F .f32)))))

/-- Write the reciprocal deviations. -/
def recipPhase (acc : Memref sig .tc .vmem SAcc .f32) (rs : Memref sig .tc .vmem SCol .f32) :
    Prog (TpuEff nD τ sig (Elt F) Λ .tc) PUnit := do
  let v : Vec F SAcc .f32 ← Prog.lift (.load acc (Rect.unit (s := SAcc) ![0, 0] SAcc.size all_acc).toLoadRect (View.loadsAt_vmem pos_acc))
  let _ ← Prog.lift (.load rs (Rect.unit (s := SCol) ![0, 0] SCol.size all_col).toLoadRect (View.loadsAt_vmem pos_col))
  Prog.lift (.store rs (Rect.unit (s := SCol) ![0, 0] SCol.size all_col) (shapeCast SCol (recip v) col_col) Finset.univ
    (View.stores_vmem_bits_univ pos_col rfl) (.inl rfl))

/-- Scale one kept row and store it in the result's window. -/
def scaleRow (xb : Memref sig .tc .vmem SBuf .f32) (out : Memref sig .tc .vmem SBlk .f32) (P : Place) (rs w b : FVec F SCol .f32)
    (j : Fin 4) (r : Fin 16) : Prog (TpuEff nD τ sig (Elt F) Λ .tc) PUnit := do
  let v : Vec F SRow .f32 ← Prog.lift (.load xb (Rect.unit (s := SBuf) (P.off j r) SRow.size (P.inb j r)).toLoadRect (View.loadsAt_vmem pos_row))
  let _ ← Prog.lift (.load out (Rect.unit (s := SBlk) ![r.val, 0, 1024 * j.val] SRow.size (in_blk r j)).toLoadRect (View.loadsAt_vmem pos_row))
  Prog.lift (.store out (Rect.unit (s := SBlk) ![r.val, 0, 1024 * j.val] SRow.size (in_blk r j))
    (shapeCast SRow (quant (addf (quant (mulf (broadcastTo SChk w col_chk)
      (quant (mulf (shapeCast SChk v row_chk) (broadcastTo SChk rs col_chk))))) (broadcastTo SChk b col_chk))) chk_row) Finset.univ
    (View.stores_vmem_bits_univ pos_row rfl) (.inl rfl))

/-- Scale sixteen kept rows into the result's window. -/
def scalePhase (xb : Memref sig .tc .vmem SBuf .f32) (w b rs : Memref sig .tc .vmem SCol .f32) (out : Memref sig .tc .vmem SBlk .f32)
    (P : Place) : Prog (TpuEff nD τ sig (Elt F) Λ .tc) PUnit := do
  let vr : Vec F SCol .f32 ← Prog.lift (.load rs (Rect.unit (s := SCol) ![0, 0] SCol.size all_col).toLoadRect (View.loadsAt_vmem pos_col))
  let vw : Vec F SCol .f32 ← Prog.lift (.load w (Rect.unit (s := SCol) ![0, 0] SCol.size all_col).toLoadRect (View.loadsAt_vmem pos_col))
  let vb : Vec F SCol .f32 ← Prog.lift (.load b (Rect.unit (s := SCol) ![0, 0] SCol.size all_col).toLoadRect (View.loadsAt_vmem pos_col))
  loop 16 (fun r _ => loop 4 (fun j _ => scaleRow xb out P vr (shapeCast SCol vw col_col) (shapeCast SCol vb col_col) j r) ⟨⟩) ⟨⟩

end

end Cert.Bn
-- ==== Proof.KernelIdealBody.lean ====
/-
  The printed body of the kernel is the phases of `Phases`, each under its condition.
-/
module

public import proofs.«01_k».proof.KernelIdeal
public import proofs.«01_k».proof.Proof.Phases

@[expose] public section

set_option maxRecDepth 65536

noncomputable section

namespace Cert.KernelIdeal.Hand

open Idealize.ShloMosaic Idealize.SL.Sem Cert.Bn

variable {F : FTy → Type} [FloatOps F] [Facts]
open Facts₀ Facts

/-- A branch followed by what both of its sides run is the branch alone, then the rest. -/
theorem ifjp {Ef : Type → Type} {β : Type} {c : Prop} [Decidable c] (p : c → Prog Ef PUnit) {k k' : Prog Ef β}
    {t : c → Prog Ef β} {e : ¬ c → Prog Ef β} (he : ∀ h, e h = k) (ht : ∀ h, t h = p h >>= fun _ => k) (hk : k = k') :
    dite c t e = (dite c p fun _ => pure ⟨⟩) >>= fun _ => k' := by
  subst hk
  by_cases h : c
  · rw [dif_pos h, dif_pos h]; exact ht h
  · rw [dif_neg h, dif_neg h]; exact he h

/-- Four programs run together, then a program on what they hand on, are five in a row. -/
theorem regroup {Ef : Type → Type} {α β : Type} (a b c d : Prog Ef PUnit) (t : α) {k : α → Prog Ef β} {k' : Prog Ef β} (h : k t = k') :
    ((a >>= fun _ => b >>= fun _ => c >>= fun _ => d >>= fun _ => pure t) >>= k) = a >>= fun _ => b >>= fun _ => c >>= fun _ => d >>= fun _ => k' := by
  subst h; simp only [bind_assoc, pure_bind]

/-- Where the copying phase puts its rows. -/
abbrev copyPlace (i : grid0.Coords) (h : k0_cond3 i = 1#1) : Place where
  off := four (fun r => k0_off1 i (BitVec.ofNat 32 r.val)) (fun r => k0_off2 i (BitVec.ofNat 32 r.val))
    (fun r => k0_off3 i (BitVec.ofNat 32 r.val)) (fun r => k0_off4 i (BitVec.ofNat 32 r.val))
  inb j r := match j with
    | 0 => k0_off1_inb i h r | 1 => k0_off2_inb i h r | 2 => k0_off3_inb i h r | 3 => k0_off4_inb i h r

/-- Where the centring phase finds its rows. -/
abbrev centrePlace (i : grid0.Coords) (h : k0_cond5 i = 1#1) : Place where
  off := four (fun r => k0_off7 i (BitVec.ofNat 32 r.val)) (fun r => k0_off8 i (BitVec.ofNat 32 r.val))
    (fun r => k0_off9 i (BitVec.ofNat 32 r.val)) (fun r => k0_off10 i (BitVec.ofNat 32 r.val))
  inb j r := match j with
    | 0 => k0_off7_inb i h r | 1 => k0_off8_inb i h r | 2 => k0_off9_inb i h r | 3 => k0_off10_inb i h r

/-- Where the scaling phase finds its rows. -/
abbrev scalePlace (i : grid0.Coords) (h : k0_cond7 i = 1#1) : Place where
  off := four (fun r => k0_off11 i (BitVec.ofNat 32 r.val)) (fun r => k0_off12 i (BitVec.ofNat 32 r.val))
    (fun r => k0_off13 i (BitVec.ofNat 32 r.val)) (fun r => k0_off14 i (BitVec.ofNat 32 r.val))
  inb j r := match j with
    | 0 => k0_off11_inb i h r | 1 => k0_off12_inb i h r | 2 => k0_off13_inb i h r | 3 => k0_off14_inb i h r

/-- The condition for clearing the first accumulator. -/
abbrev cond1 (i : grid0.Coords) : BitVec 1 :=
  Scalar.cmpi .ne (Scalar.extui (Scalar.andi (Scalar.cmpi .eq (BitVec.ofNat 32 (i 1).val) 0#32) (Scalar.cmpi .slt (BitVec.ofNat 32 (i 0).val) 8#32)) : BitVec 32) 0#32
/-- The condition for clearing the second accumulator. -/
abbrev cond2 (i : grid0.Coords) : BitVec 1 :=
  Scalar.cmpi .ne (Scalar.extui (Scalar.andi (Scalar.cmpi .eq (BitVec.ofNat 32 (i 1).val) 1#32) (Scalar.cmpi .sgt (BitVec.ofNat 32 (i 0).val) 0#32)) : BitVec 32) 0#32
/-- The condition for computing the reciprocal deviations. -/
abbrev cond6 (i : grid0.Coords) : BitVec 1 :=
  Scalar.cmpi .ne (Scalar.extui (Scalar.andi (Scalar.cmpi .eq (BitVec.ofNat 32 (i 1).val) 7#32) (Scalar.cmpi .sgt (BitVec.ofNat 32 (i 0).val) 0#32)) : BitVec 32) 0#32

section
variable (i : grid0.Coords) (arg2 : Memref sig .tc .vmem S16x16x4096 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x16x4096 .f32) (harg5 : arg5.IsWhole) (arg6 : Memref sig .tc .vmem S128x16x4096 .f32) (harg6 : arg6.IsWhole) (arg7 : Memref sig .tc .vmem S16x4096 .f32) (harg7 : arg7.IsWhole) (arg8 : Memref sig .tc .vmem S16x4096 .f32) (harg8 : arg8.IsWhole) (arg9 : Memref sig .tc .vmem S32x1 .f32) (harg9 : arg9.IsWhole) (arg10 : Memref sig .tc .vmem S16x1 .f32) (harg10 : arg10.IsWhole)

/-- Whether the point is one of the odd ones among the first eight. -/
abbrev due (i : grid0.Coords) : BitVec 1 :=
  let arg1 : BitVec 32 := BitVec.ofNat 32 (i 1).val
  let v1 : BitVec 32 := Scalar.select (Scalar.cmpi .eq 2#32 0#32) 1#32 2#32
  let v2 : BitVec 32 := Scalar.remsi arg1 v1
  let v9 : BitVec 32 := Scalar.select (Scalar.andi (Scalar.xori (Scalar.cmpi .slt v2 0#32) (Scalar.cmpi .slt v1 0#32)) (Scalar.cmpi .ne v2 0#32)) (Scalar.addi v2 v1) v2
  Scalar.andi (Scalar.cmpi .slt arg1 8#32) (Scalar.xori (Scalar.cmpi .eq v9 0#32) 1#1)

/-- The first part of the printed body is the four first phases. -/
theorem part95_eq : k0_part95 (F := F) i arg2 harg2 arg3 harg3 arg4 harg4 arg5 harg5 arg6 harg6 arg7 harg7 arg8 harg8 arg9 harg9 arg10 harg10 =
    ((dite (cond1 i = 1#1) (fun _ => clear arg7) fun _ => pure ⟨⟩) >>= fun _ =>
     (dite (cond2 i = 1#1) (fun _ => clear arg8) fun _ => pure ⟨⟩) >>= fun _ =>
     (dite (k0_cond3 i = 1#1) (fun h => copyPhase arg2 arg6 arg7 (copyPlace i h)) fun _ => pure ⟨⟩) >>= fun _ =>
     (dite (k0_cond4 i = 1#1) (fun h => meanPhase arg7 arg9 (k0_off5 i) (k0_off5_inb i h)) fun _ => pure ⟨⟩) >>= fun _ =>
     pure ⟨BitVec.ofNat 32 (i 0).val, BitVec.ofNat 32 (i 1).val, due i⟩) := by
  unfold k0_part95
  refine ifjp (c := cond1 i = 1#1) _ (fun _ => rfl) (fun _ => rfl) ?_
  refine ifjp (c := cond2 i = 1#1) _ (fun _ => rfl) (fun _ => rfl) ?_
  refine ifjp (c := k0_cond3 i = 1#1) _ (fun _ => rfl) (fun _ => rfl) ?_
  refine ifjp (c := k0_cond4 i = 1#1) _ (fun _ => rfl) (fun _ => rfl) ?_
  rfl

/-- The printed body is the seven phases, in order. -/
theorem body_eq : cc0_qbn_fused (F := F) i arg2 harg2 arg3 harg3 arg4 harg4 arg5 harg5 arg6 harg6 arg7 harg7 arg8 harg8 arg9 harg9 arg10 harg10 =
    ((dite (cond1 i = 1#1) (fun _ => clear arg7) fun _ => pure ⟨⟩) >>= fun _ =>
     (dite (cond2 i = 1#1) (fun _ => clear arg8) fun _ => pure ⟨⟩) >>= fun _ =>
     (dite (k0_cond3 i = 1#1) (fun h => copyPhase arg2 arg6 arg7 (copyPlace i h)) fun _ => pure ⟨⟩) >>= fun _ =>
     (dite (k0_cond4 i = 1#1) (fun h => meanPhase arg7 arg9 (k0_off5 i) (k0_off5_inb i h)) fun _ => pure ⟨⟩) >>= fun _ =>
     (dite (k0_cond5 i = 1#1) (fun h => centrePhase arg6 arg8 arg9 (centrePlace i h) (k0_off6 i) (k0_off6_inb i h)) fun _ => pure ⟨⟩) >>= fun _ =>
     (dite (cond6 i = 1#1) (fun h => recipPhase arg8 arg10) fun _ => pure ⟨⟩) >>= fun _ =>
     (dite (k0_cond7 i = 1#1) (fun h => scalePhase arg6 arg3 arg4 arg10 arg5 (scalePlace i h)) fun _ => pure ⟨⟩) >>= fun _ =>
     pure ⟨⟩) := by
  unfold cc0_qbn_fused
  rw [part95_eq]
  refine regroup _ _ _ _ _ ?_
  refine ifjp (c := k0_cond5 i = 1#1) _ (fun _ => rfl) (fun _ => rfl) ?_
  refine ifjp (c := cond6 i = 1#1) _ (fun _ => rfl) (fun _ => rfl) ?_
  refine ifjp (c := k0_cond7 i = 1#1) _ (fun _ => rfl) (fun _ => rfl) ?_
  rfl
end
end Cert.KernelIdeal.Hand
-- ==== Proof.KernelIdealSchedule.lean ====
/-
  The grid in closed form: at point `t` the kernel is at step `t % 12` of group `t / 12`. Which
  phases run there, where they read and write, and which blocks the windows hold.
-/
module

public import proofs.«01_k».proof.Proof.KernelIdealBody
public import proofs.«01_k».proof.Proof.Gen.KernelIdeal.Frame
public import Idealize.ShloMosaic.Lib.Pipeline.ValueKit

@[expose] public section

set_option maxRecDepth 65536

noncomputable section

namespace Cert.KernelIdeal.Hand

open Idealize.ShloMosaic Idealize.SL.Sem Cert.Bn Cert.KernelIdeal.Gen
open Facts₀ Facts

/-- The group and the step of a point. -/
theorem group_lt (t : Fin grid0.N) : t.val / 12 < 9 := by have := t.isLt; have := N_0; omega
/-- A point's step is one of twelve. -/
theorem step_lt (t : Fin grid0.N) : t.val % 12 < 12 := Nat.mod_lt _ (by decide)

/-- The first sum is cleared at step 0, while groups remain. -/
theorem when1 : ∀ t : Fin grid0.N, cond1 (grid0.coords t) = 1#1 ↔ t.val % 12 = 0 ∧ t.val / 12 < 8 := by decide +kernel
/-- The second sum is cleared at step 1, for a group that follows one. -/
theorem when2 : ∀ t : Fin grid0.N, cond2 (grid0.coords t) = 1#1 ↔ t.val % 12 = 1 ∧ 0 < t.val / 12 := by decide +kernel
/-- The input is copied and summed at the even steps below 8, while groups remain. -/
theorem when3 : ∀ t : Fin grid0.N, k0_cond3 (grid0.coords t) = 1#1 ↔ (t.val % 12 < 8 ∧ t.val % 12 % 2 = 0) ∧ t.val / 12 < 8 := by decide +kernel
/-- The mean is taken at step 6, while groups remain. -/
theorem when4 : ∀ t : Fin grid0.N, k0_cond4 (grid0.coords t) = 1#1 ↔ t.val % 12 = 6 ∧ t.val / 12 < 8 := by decide +kernel
/-- The group before, where there is one, is centred at the odd steps below 8. -/
theorem when5 : ∀ t : Fin grid0.N, k0_cond5 (grid0.coords t) = 1#1 ↔ (t.val % 12 < 8 ∧ t.val % 12 % 2 = 1) ∧ 0 < t.val / 12 := by decide +kernel
/-- The deviation's reciprocal is taken at step 7, for a group that follows one. -/
theorem when6 : ∀ t : Fin grid0.N, cond6 (grid0.coords t) = 1#1 ↔ t.val % 12 = 7 ∧ 0 < t.val / 12 := by decide +kernel
/-- The result is written at the steps from 8 on, for a group that follows one. -/
theorem when7 : ∀ t : Fin grid0.N, k0_cond7 (grid0.coords t) = 1#1 ↔ 8 ≤ t.val % 12 ∧ 0 < t.val / 12 := by decide +kernel

/-- Where the copies go. -/
theorem copy_off : ∀ t : Fin grid0.N, k0_cond3 (grid0.coords t) = 1#1 → ∀ (j : Fin 4) (r : Fin 16),
    four (fun r : Fin 16 => k0_off1 (grid0.coords t) (BitVec.ofNat 32 r.val)) (fun r => k0_off2 (grid0.coords t) (BitVec.ofNat 32 r.val))
      (fun r => k0_off3 (grid0.coords t) (BitVec.ofNat 32 r.val)) (fun r => k0_off4 (grid0.coords t) (BitVec.ofNat 32 r.val)) j r =
    ![64 * (t.val / 12 % 2) + 16 * (t.val % 12 / 2) + r.val, 0, 1024 * j.val] := by decide +kernel
/-- Where the means go. -/
theorem mean_off : ∀ t : Fin grid0.N, k0_cond4 (grid0.coords t) = 1#1 → k0_off5 (grid0.coords t) = ![16 * (t.val / 12 % 2), 0] := by decide +kernel
/-- Which rows are centred. -/
theorem centre_off : ∀ t : Fin grid0.N, k0_cond5 (grid0.coords t) = 1#1 → ∀ (j : Fin 4) (r : Fin 16),
    four (fun r : Fin 16 => k0_off7 (grid0.coords t) (BitVec.ofNat 32 r.val)) (fun r => k0_off8 (grid0.coords t) (BitVec.ofNat 32 r.val))
      (fun r => k0_off9 (grid0.coords t) (BitVec.ofNat 32 r.val)) (fun r => k0_off10 (grid0.coords t) (BitVec.ofNat 32 r.val)) j r =
    ![64 * ((t.val / 12 + 1) % 2) + 16 * (t.val % 12 / 2) + r.val, 0, 1024 * j.val] := by decide +kernel
/-- Which means are subtracted. -/
theorem mean_off' : ∀ t : Fin grid0.N, k0_cond5 (grid0.coords t) = 1#1 → k0_off6 (grid0.coords t) = ![16 * ((t.val / 12 + 1) % 2), 0] := by decide +kernel
/-- Which rows are scaled. -/
theorem scale_off : ∀ t : Fin grid0.N, k0_cond7 (grid0.coords t) = 1#1 → ∀ (j : Fin 4) (r : Fin 16),
    four (fun r : Fin 16 => k0_off11 (grid0.coords t) (BitVec.ofNat 32 r.val)) (fun r => k0_off12 (grid0.coords t) (BitVec.ofNat 32 r.val))
      (fun r => k0_off13 (grid0.coords t) (BitVec.ofNat 32 r.val)) (fun r => k0_off14 (grid0.coords t) (BitVec.ofNat 32 r.val)) j r =
    ![64 * ((t.val / 12 + 1) % 2) + 16 * (t.val % 12 - 8) + r.val, 0, 1024 * j.val] := by decide +kernel

/-- The blocks the windows are on, where the phases use them. -/
theorem index0 : ∀ t : Fin grid0.N, k0_cond3 (grid0.coords t) = 1#1 → win0_0.index t = ![t.val % 12 / 2, t.val / 12, 0] := by decide +kernel
/-- Where the result is written, the weight's window is the group before's. -/
theorem index1 : ∀ t : Fin grid0.N, k0_cond7 (grid0.coords t) = 1#1 → win0_1.index t = ![t.val / 12 - 1, 0] := by decide +kernel
/-- Where the result is written, the bias's window is the group before's. -/
theorem index2 : ∀ t : Fin grid0.N, k0_cond7 (grid0.coords t) = 1#1 → win0_2.index t = ![t.val / 12 - 1, 0] := by decide +kernel
/-- Where the result is written, its window is at the step's images and the group before's channels. -/
theorem index3 : ∀ t : Fin grid0.N, k0_cond7 (grid0.coords t) = 1#1 → win0_3.index t = ![t.val % 12 - 8, t.val / 12 - 1, 0] := by decide +kernel
/-- The result's window is written back just where the last phase runs. -/
theorem flush3 : ∀ t : Fin grid0.N, win0_3.flush t = (k0_cond7 (grid0.coords t) == 1#1) := by decide +kernel
/-- The blocks written back make up the whole result. -/
theorem covers3 : win0_3.Covers := by decide +kernel

end Cert.KernelIdeal.Hand
-- ==== Proof.Tables.lean ====
/-
  Arrays given by their coordinates.

  A buffer's contents are written as a function of the coordinates as natural numbers, so that
  offsets, remainders and comparisons are plain arithmetic. Rounded sums are sums of the first
  `k` values of a sequence, each addition rounded.
-/
module

public import proofs.«01_k».proof.Proof.Phases
public import Idealize.ShloMosaic.Lib.Pipeline.Value
public import Idealize.ShloMosaic.Lib.Pipeline.FrameBody

@[expose] public section

noncomputable section

namespace Cert.Bn

open Idealize.ShloMosaic Idealize.SL.Sem

variable {α : Type}

/-- An array of rank three, by its coordinates. -/
def tab3 {a b c : ℕ} (f : ℕ → ℕ → ℕ → α) : (⟨3, ![a, b, c]⟩ : Shape).Idx → α := fun z => f (z 0).val (z 1).val (z 2).val

/-- An array of rank two, by its coordinates. -/
def tab2 {a b : ℕ} (f : ℕ → ℕ → α) : (⟨2, ![a, b]⟩ : Shape).Idx → α := fun z => f (z 0).val (z 1).val

/-- Arrays of rank three are equal if they are equal at every index in range. -/
theorem tab3_congr {a b c : ℕ} {f g : ℕ → ℕ → ℕ → α} (h : ∀ x y z, x < a → y < b → z < c → f x y z = g x y z) :
    (tab3 f : (⟨3, ![a, b, c]⟩ : Shape).Idx → α) = tab3 g :=
  funext fun z => h _ _ _ (z 0).isLt (z 1).isLt (z 2).isLt

/-- Arrays of rank two are equal if they are equal at every index in range. -/
theorem tab2_congr {a b : ℕ} {f g : ℕ → ℕ → α} (h : ∀ x y, x < a → y < b → f x y = g x y) :
    (tab2 f : (⟨2, ![a, b]⟩ : Shape).Idx → α) = tab2 g :=
  funext fun z => h _ _ (z 0).isLt (z 1).isLt

/-- The coordinates of an array of rank two. -/
def un2 {a b : ℕ} [NeZero a] [NeZero b] (v : (⟨2, ![a, b]⟩ : Shape).Idx → α) (x y : ℕ) : α :=
  v fun d => match d with | ⟨0, _⟩ => Fin.ofNat a x | ⟨1, _⟩ => Fin.ofNat b y

/-- Every array of rank two is given by its coordinates. -/
theorem tab2_un2 {a b : ℕ} [NeZero a] [NeZero b] (v : (⟨2, ![a, b]⟩ : Shape).Idx → α) : tab2 (un2 v) = v :=
  funext fun z => congrArg v (funext fun d =>
    match d with
    | ⟨0, _⟩ => Fin.ext (Nat.mod_eq_of_lt (z 0).isLt)
    | ⟨1, _⟩ => Fin.ext (Nat.mod_eq_of_lt (z 1).isLt))

/-- The coordinates of an array of rank three. -/
def un3 {a b c : ℕ} [NeZero a] [NeZero b] [NeZero c] (v : (⟨3, ![a, b, c]⟩ : Shape).Idx → α) (x y z : ℕ) : α :=
  v fun d => match d with | ⟨0, _⟩ => Fin.ofNat a x | ⟨1, _⟩ => Fin.ofNat b y | ⟨2, _⟩ => Fin.ofNat c z

/-- Every array of rank three is given by its coordinates. -/
theorem tab3_un3 {a b c : ℕ} [NeZero a] [NeZero b] [NeZero c] (v : (⟨3, ![a, b, c]⟩ : Shape).Idx → α) : tab3 (un3 v) = v :=
  funext fun z => congrArg v (funext fun d =>
    match d with
    | ⟨0, _⟩ => Fin.ext (Nat.mod_eq_of_lt (z 0).isLt)
    | ⟨1, _⟩ => Fin.ext (Nat.mod_eq_of_lt (z 1).isLt)
    | ⟨2, _⟩ => Fin.ext (Nat.mod_eq_of_lt (z 2).isLt))

/-- Writing a box of a rank-three array. -/
theorem overlay3 {a b c : ℕ} (off size : Fin 3 → ℕ) (inb : ∀ d, off d + size d ≤ (⟨3, ![a, b, c]⟩ : Shape).size d)
    (f g : ℕ → ℕ → ℕ → α) (w : (Rect.unit (s := ⟨3, ![a, b, c]⟩) off size inb).shape.Idx → α)
    (hw : ∀ x, w x = g (off 0 + (x 0).val) (off 1 + (x 1).val) (off 2 + (x 2).val)) :
    (Rect.unit (s := ⟨3, ![a, b, c]⟩) off size inb).overlay (tab3 f) w =
      tab3 fun x y z => if (off 0 ≤ x ∧ x < off 0 + size 0) ∧ (off 1 ≤ y ∧ y < off 1 + size 1) ∧ (off 2 ≤ z ∧ z < off 2 + size 2) then g x y z else f x y z := by
  funext i
  by_cases hi : i ∈ (Rect.unit (s := ⟨3, ![a, b, c]⟩) off size inb).set
  · obtain ⟨x, rfl⟩ := LoadRect.exists_idx_of_mem _ hi
    have hm := Rect.mem_set_unit.mp hi
    refine (Rect.overlay_emb _ _ w x).trans ((hw x).trans ?_)
    unfold tab3
    beta_reduce
    rw [if_pos ⟨hm 0, hm 1, hm 2⟩]
    have e : ∀ d, ((Rect.unit (s := ⟨3, ![a, b, c]⟩) off size inb).idx x d).val = off d + (x d).val := fun d => by
      show off d + 1 * (x d).val = _; rw [Nat.one_mul]
    rw [e 0, e 1, e 2]
  · rw [Rect.overlay_of_not_mem _ _ _ hi]
    unfold tab3
    beta_reduce
    rw [if_neg fun h => hi (Rect.mem_set_unit.mpr fun d => match d with | ⟨0, _⟩ => h.1 | ⟨1, _⟩ => h.2.1 | ⟨2, _⟩ => h.2.2)]

/-- Writing a box of a rank-two array. -/
theorem overlay2 {a b : ℕ} (off size : Fin 2 → ℕ) (inb : ∀ d, off d + size d ≤ (⟨2, ![a, b]⟩ : Shape).size d)
    (f g : ℕ → ℕ → α) (w : (Rect.unit (s := ⟨2, ![a, b]⟩) off size inb).shape.Idx → α)
    (hw : ∀ x, w x = g (off 0 + (x 0).val) (off 1 + (x 1).val)) :
    (Rect.unit (s := ⟨2, ![a, b]⟩) off size inb).overlay (tab2 f) w =
      tab2 fun x y => if (off 0 ≤ x ∧ x < off 0 + size 0) ∧ (off 1 ≤ y ∧ y < off 1 + size 1) then g x y else f x y := by
  funext i
  by_cases hi : i ∈ (Rect.unit (s := ⟨2, ![a, b]⟩) off size inb).set
  · obtain ⟨x, rfl⟩ := LoadRect.exists_idx_of_mem _ hi
    have hm := Rect.mem_set_unit.mp hi
    refine (Rect.overlay_emb _ _ w x).trans ((hw x).trans ?_)
    unfold tab2
    beta_reduce
    rw [if_pos ⟨hm 0, hm 1⟩]
    have e : ∀ d, ((Rect.unit (s := ⟨2, ![a, b]⟩) off size inb).idx x d).val = off d + (x d).val := fun d => by
      show off d + 1 * (x d).val = _; rw [Nat.one_mul]
    rw [e 0, e 1]
  · rw [Rect.overlay_of_not_mem _ _ _ hi]
    unfold tab2
    beta_reduce
    rw [if_neg fun h => hi (Rect.mem_set_unit.mpr fun d => match d with | ⟨0, _⟩ => h.1 | ⟨1, _⟩ => h.2)]

/-- Reading a box of a rank-three array. -/
theorem tab3_idx {a b c : ℕ} (off size : Fin 3 → ℕ) (inb : ∀ d, off d + size d ≤ (⟨3, ![a, b, c]⟩ : Shape).size d)
    (f : ℕ → ℕ → ℕ → α) (x : (Rect.unit (s := ⟨3, ![a, b, c]⟩) off size inb).shape.Idx) :
    tab3 f ((Rect.unit (s := ⟨3, ![a, b, c]⟩) off size inb).toLoadRect.idx x) = f (off 0 + (x 0).val) (off 1 + (x 1).val) (off 2 + (x 2).val) := by
  show f (off 0 + 1 * (x 0).val) (off 1 + 1 * (x 1).val) (off 2 + 1 * (x 2).val) = _
  simp only [Nat.one_mul]

/-- Reading a box of a rank-two array. -/
theorem tab2_idx {a b : ℕ} (off size : Fin 2 → ℕ) (inb : ∀ d, off d + size d ≤ (⟨2, ![a, b]⟩ : Shape).size d)
    (f : ℕ → ℕ → α) (x : (Rect.unit (s := ⟨2, ![a, b]⟩) off size inb).shape.Idx) :
    tab2 f ((Rect.unit (s := ⟨2, ![a, b]⟩) off size inb).toLoadRect.idx x) = f (off 0 + (x 0).val) (off 1 + (x 1).val) := by
  show f (off 0 + 1 * (x 0).val) (off 1 + 1 * (x 1).val) = _
  simp only [Nat.one_mul]

variable {F : FTy → Type} [FloatOps F]

/-- Rounding one number to bf16 and back. -/
def q1 (x : F .f32) : F .f32 := FloatOps.extf .f32 bits_lt (FloatOps.truncf .bf16 bits_lt x)

/-- An array is rounded entry by entry. -/
theorem quant_apply {s : Shape} (v : FVec F s .f32) (i : s.Idx) : quant v i = q1 (v i) := rfl

/-- The first `k` values of `f` added to `z` in order, each sum rounded. -/
def qfold (f : ℕ → F .f32) : ℕ → F .f32 → F .f32
  | 0, z => z
  | k + 1, z => q1 (FloatOps.addf (qfold f k z) (f k))

/-- Rounded sums of equal values are equal. -/
theorem qfold_congr {f g : ℕ → F .f32} {k : ℕ} (h : ∀ i < k, f i = g i) (z : F .f32) : qfold f k z = qfold g k z := by
  induction k with
  | zero => rfl
  | succ k ih => show q1 (FloatOps.addf (qfold f k z) (f k)) = q1 (FloatOps.addf (qfold g k z) (g k)); rw [ih fun i hi => h i (by omega), h k (by omega)]

/-- A sum of `m + k` values is the sum of the last `k` onto that of the first `m`. -/
theorem qfold_add (f : ℕ → F .f32) (m k : ℕ) (z : F .f32) : qfold f (m + k) z = qfold (fun i => f (m + i)) k (qfold f m z) := by
  induction k with
  | zero => rfl
  | succ k ih => show q1 (FloatOps.addf (qfold f (m + k) z) (f (m + k))) = _; rw [ih]; rfl

/-- The zero the sums start from. -/
abbrev zer : F .f32 := FloatOps.ofBits .f32 0x00000000#32
/-- The count of the summed elements. -/
abbrev cnt : F .f32 := FloatOps.ofBits .f32 0x48800000#32
/-- The small constant added to the variance. -/
abbrev eps : F .f32 := FloatOps.ofBits .f32 0x3727C5AC#32
/-- One. -/
abbrev one : F .f32 := FloatOps.ofBits .f32 0x3F800000#32

/-- The average over lanes of one channel: the image rows first, then the columns. -/
def avg (a : ℕ → F .f32) : F .f32 :=
  q1 (FloatOps.divf (qfold (fun w => qfold (fun h => a (64 * h + w)) 64 zer) 64 zer) cnt)

/-- Averages of equal values are equal. -/
theorem avg_congr {a b : ℕ → F .f32} (h : ∀ l < 4096, a l = b l) : avg a = avg b := by
  unfold avg
  rw [qfold_congr fun w hw => qfold_congr (fun h' hh => h _ (by omega)) zer]

/-- Steps of a function on vectors that round one addition each are, at an index, a rounded sum. -/
theorem steps_apply {s : Shape} (n : ℕ) (g : Fin n → FVec F s .f32) (f : ℕ → F .f32) (z : FVec F s .f32) (i : s.Idx)
    (h : ∀ k : Fin n, g k i = f k.val) :
    steps n (fun k a => quant (addf a (g k))) z i = qfold f n (z i) := by
  induction n generalizing f with
  | zero => rfl
  | succ n ih =>
    show q1 (FloatOps.addf (steps n (fun k a => quant (addf a (g k.castSucc))) z i) (g (Fin.last n) i)) = _
    rw [ih (fun k => g k.castSucc) f fun k => h k.castSucc, h]
    rfl

/-- The average of an accumulator, channel by channel. -/
theorem average_tab (A : ℕ → ℕ → F .f32) : average (tab2 A : FVec F SAcc .f32) = tab2 fun a _ => avg (A a) := by
  funext i
  have h1 : (i 1).val = 0 := by have := (i 1).isLt; simp at this; omega
  show q1 (FloatOps.divf _ cnt) = _
  unfold tab2 avg
  congr 2
  refine steps_apply 64 _ _ _ i fun w => ?_
  refine (extractStridedSlice_apply (s := SLan) (t := SCol) _ _ _ i (fun d => match d with | ⟨0, _⟩ => ⟨(i 0).val, (i 0).isLt⟩ | ⟨1, _⟩ => ⟨w.val, w.isLt⟩) ?_).trans ?_
  · intro d
    match d with
    | ⟨0, _⟩ => show (i 0).val = 0 + (i 0).val; omega
    | ⟨1, _⟩ => show w.val = w.val + (i 1).val; omega
  refine steps_apply 64 _ _ _ _ fun h => ?_
  refine (extractStridedSlice_apply (s := SAcc) (t := SLan) _ _ _ _ (fun d => match d with | ⟨0, _⟩ => ⟨(i 0).val, (i 0).isLt⟩ | ⟨1, _⟩ => ⟨64 * h.val + w.val, by have := h.isLt; have := w.isLt; show _ < 4096; omega⟩) ?_).trans ?_
  · intro d
    match d with
    | ⟨0, _⟩ => show (i 0).val = 0 + (i 0).val; omega
    | ⟨1, _⟩ => rfl
  · rfl

/-- One over the rounded deviation. -/
def rec1 (v : F .f32) : F .f32 := FloatOps.divf one (q1 (FloatOps.sqrt (FloatOps.addf v eps)))

/-- The reciprocal of the deviation, row by row. -/
theorem recip_tab (A : ℕ → ℕ → F .f32) : recip (tab2 A : FVec F SAcc .f32) = tab2 fun a _ => rec1 (avg (A a)) := by
  unfold recip
  rw [average_tab]
  rfl

end Cert.Bn
-- ==== Proof.Rules.lean ====
/-
  What the phases' loads, stores and loops do to owned buffers.
-/
module

public import proofs.«01_k».proof.Proof.Tables

@[expose] public section

noncomputable section

namespace Cert.Bn

open Idealize.ShloMosaic Idealize.SL
open Idealize.SL.BI (sProp)
open scoped Idealize.SL.BI
open Idealize.SL.BI.BIBase Idealize.SL.BI.Laws Idealize.SL.Sem Idealize.SL.ProofMode
open Idealize.SL.RA

variable {nD : ℕ} {τ : Topo} {sig : RefSig} {Val : EltTy → Type} {Ix : Type} [DecidableEq Ix] {Name : Type} [DecidableEq Name]
  {U : Type} [URA U] {Lvl : Type} [Preorder Lvl] {Λ : Labels}
  {defs : Defs nD τ sig Val Λ} (𝒱 : Variants) (c : Dev nD) (bd : Option 𝒱.V) (E : Set Name)

local notation "𝕄" => MT nD τ sig Ix Val Name U Lvl

section
variable {α : Type} {Q : α → sProp (MT nD τ sig Ix Val Name U Lvl)}

/-- A load of part of an owned buffer reads the owned contents there. -/
theorem owns_load {cs : CoreSpace} {s : Shape} {e : EltTy} {m : Memref sig .tc cs s e} {r : LoadRect s} {hl : m.view.LoadsAt r}
    {k : (r.shape.Idx → Val e) → Prog (TpuEff nD τ sig Val Λ .tc) α} {q : PosShare TreeShare} {X : s.Idx → Val e} :
    (owns (c.tc : Thread nD τ) m q X : sProp 𝕄) ⊢
      iprop((owns (c.tc : Thread nD τ) m q X -∗ wp frame (wpE defs 𝒱 (c.tc : Thread nD τ) bd) E (k fun x => X (r.idx x)) Q)
        -∗ wp frame (wpE defs 𝒱 (c.tc : Thread nD τ) bd) E (Prog.lift (.load m r hl) >>= k) Q) := by
  unfold owns
  iintro ⟨%f, %hf, H⟩ K
  subst hf
  iapply (wp_load 𝒱 (c.tc : Thread nD τ) bd E (m := m) (View.setOn_subset_set _ _)) $$ H
  iintro H
  iapply K
  iexists f
  isplitr
  · ipureintro; rfl
  iexact H

/-- What an owned buffer reads after a store to part of it. -/
theorem read_store {cs : CoreSpace} {s : Shape} {e : EltTy} (m : Memref sig .tc cs s e) (r : Rect s)
    (f : m.view.ty.Contents Val) (w : r.shape.Idx → Val e) :
    m.view.read Val ((m.view.slice r).write Val f w Finset.univ) = r.overlay (m.view.read Val f) w := by
  funext y
  by_cases hy : y ∈ r.set
  · obtain ⟨x, rfl⟩ := LoadRect.exists_idx_of_mem _ hy
    exact (View.read_slice_write_emb r f w (Finset.mem_univ x)).trans (Rect.overlay_emb r _ w x).symm
  · rw [Rect.overlay_of_not_mem _ _ _ hy]
    exact View.read_slice_write_of_not_mem r f w Finset.univ (by rwa [Rect.map_emb_univ])

/-- A store to part of an owned buffer, then the rest of the program. -/
theorem owns_store {cs : CoreSpace} {s : Shape} {e : EltTy} {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} {X : s.Idx → Val e} :
    (owns (c.tc : Thread nD τ) m fullShare X : sProp 𝕄) ⊢
      iprop((owns (c.tc : Thread nD τ) m fullShare (r.overlay X w) -∗ wp frame (wpE defs 𝒱 (c.tc : Thread nD τ) bd) E (k ⟨⟩) Q)
        -∗ wp frame (wpE defs 𝒱 (c.tc : Thread nD τ) bd) E (Prog.lift (.store m r w Finset.univ hx hm) >>= k) Q) := by
  unfold owns
  iintro ⟨%f, %hf, H⟩ K
  subst hf
  iapply (wp_store 𝒱 (c.tc : Thread nD τ) bd E (m := m) (r := r) (hx := hx) (View.set_slice_subset _ _)) $$ H
  iintro H
  iapply K
  iexists _
  isplitr
  · ipureintro; exact read_store m r f w
  iexact H

/-- A store that ends a program. -/
theorem owns_store_last {cs : CoreSpace} {s : Shape} {e : EltTy} {m : Memref sig .tc cs s e} {r : Rect s} {w : r.shape.Idx → Val e}
    {hx : (m.access r).Stores Finset.univ} {hm : (Finset.univ : Finset r.shape.Idx) = Finset.univ ∨ ∀ a, r.stride a = 1}
    {X : s.Idx → Val e} {Q : PUnit → sProp 𝕄} (hQ : owns (c.tc : Thread nD τ) m fullShare (r.overlay X w) ⊢ Q ⟨⟩) :
    (owns (c.tc : Thread nD τ) m fullShare X : sProp 𝕄) ⊢
      wp frame (wpE defs 𝒱 (c.tc : Thread nD τ) bd) E (Prog.lift (.store m r w Finset.univ hx hm)) Q := by
  rw [← bind_pure (Prog.lift _)]
  iintro H
  iapply (owns_store 𝒱 c bd E (k := pure)) $$ H
  iintro H
  iapply (le_wp_ret frame (wpE defs 𝒱 (c.tc : Thread nD τ) bd) E PUnit.unit Q)
  iapply hQ $$ H

/-- A loop whose every step carries the invariant on. -/
theorem wp_loop (n : ℕ) : ∀ (f : Fin n → α → Prog (TpuEff nD τ sig Val Λ .tc) α) (I : ℕ → α → sProp 𝕄)
    (hstep : ∀ (k : Fin n) a, I k.val a ⊢ wp frame (wpE defs 𝒱 (c.tc : Thread nD τ) bd) E (f k a) (I (k.val + 1))) (a : α),
    I 0 a ⊢ wp frame (wpE defs 𝒱 (c.tc : Thread nD τ) bd) E (loop n f a) (I n) := by
  induction n with
  | zero => intro f I hstep a; exact le_wp_ret frame _ E a (I 0)
  | succ n ih =>
    intro f I hstep a
    refine (hstep 0 a).trans ?_
    show _ ⊢ wp frame _ E (f 0 a >>= loop n fun k => f k.succ) (I (n + 1))
    rw [wp_bind]
    exact wp_mono _ _ _ fun b => ih (fun k => f k.succ) (fun k => I (k + 1)) (fun k b => hstep k.succ b) b

end

end Cert.Bn
-- ==== Proof.Spec.lean ====
/-
  What the kernel computes, channel by channel, and what its buffers hold along the grid.

  The input is a function of image, channel and lane. A channel's images are summed in order, the
  sum is averaged over the lanes, the average is subtracted, the squares are summed and averaged
  the same way, and each centred value is multiplied by one over the deviation, then scaled and
  shifted. Every step is rounded.

  The kernel works on channel groups of sixteen: while it reads group `g`, it centres and then
  writes group `g - 1`. `Known` states what its five buffers hold in the meantime.
-/
module

public import proofs.«01_k».proof.Proof.Tables

@[expose] public section

noncomputable section

namespace Cert.Bn

open Idealize.ShloMosaic Idealize.SL.Sem

variable {F : FTy → Type} [FloatOps F]

/-- A value less its channel's mean. -/
abbrev cen (v m : F .f32) : F .f32 := q1 (FloatOps.subf v m)

/-- The rounded square of a value. -/
abbrev sq1 (d : F .f32) : F .f32 := q1 (FloatOps.mulf d d)

/-- One result: the centred value times the reciprocal deviation, then the weight and the bias, rounded after each. -/
abbrev out1 (d r w b : F .f32) : F .f32 := q1 (FloatOps.addf (q1 (FloatOps.mulf w (q1 (FloatOps.mulf d r)))) b)

/-- The kept copy when sixteen rows from `base` have been rewritten. -/
def rows (base : ℕ) (h bf : ℕ → ℕ → ℕ → F .f32) (a b l : ℕ) : F .f32 :=
  if base ≤ a ∧ a < base + 16 then h a b l else bf a b l

section
variable (X : ℕ → ℕ → ℕ → F .f32) (W B : ℕ → F .f32)

/-- The sum of the first `k` images of a channel at a lane. -/
def sumx (k c l : ℕ) : F .f32 := qfold (fun n => X n c l) k zer
/-- A channel's mean. -/
def mean (c : ℕ) : F .f32 := avg fun l => sumx X 64 c l
/-- A centred value. -/
def dev (n c l : ℕ) : F .f32 := cen (X n c l) (mean X c)
/-- The sum of the first `k` centred images' squares. -/
def sumd (k c l : ℕ) : F .f32 := qfold (fun n => sq1 (dev X n c l)) k zer
/-- One over a channel's deviation. -/
def rdev (c : ℕ) : F .f32 := rec1 (avg fun l => sumd X 64 c l)
/-- The result. -/
def res (n c l : ℕ) : F .f32 := out1 (dev X n c l) (rdev X c) (W c) (B c)
end

/-- The contents of the five buffers: the kept copy, the two accumulators, the means and the reciprocal deviations. -/
structure St (F : FTy → Type) where
  xb : ℕ → ℕ → ℕ → F .f32
  a1 : ℕ → ℕ → F .f32
  a2 : ℕ → ℕ → F .f32
  ms : ℕ → ℕ → F .f32
  rs : ℕ → ℕ → F .f32

variable (X : ℕ → ℕ → ℕ → F .f32)

/-- What the buffers hold during group `g`: `kc` images of group `g` are copied and summed, `kd` images of group `g - 1` are
    centred and their squares summed; `m1`, `m2`, `m3`, `m4` say whether the first sum, the means, the second sum and the
    reciprocal deviations stand. -/
structure Known (g kc kd : ℕ) (m1 m2 m3 m4 : Prop) (s : St F) : Prop where
  copied : g < 8 → ∀ n a l, n < 64 → n < kc → s.xb (64 * (g % 2) + n) a l = X n (16 * g + a) l
  summed : g < 8 → m1 → ∀ a l, s.a1 a l = sumx X kc (16 * g + a) l
  meant : g < 8 → m2 → ∀ a, a < 16 → s.ms (16 * (g % 2) + a) 0 = mean X (16 * g + a)
  centred : 0 < g → g < 9 → ∀ n a l, n < 64 → a < 16 →
    s.xb (64 * ((g + 1) % 2) + n) a l = if n < kd then dev X n (16 * (g - 1) + a) l else X n (16 * (g - 1) + a) l
  squared : 0 < g → g < 9 → m3 → ∀ a l, a < 16 → s.a2 a l = sumd X kd (16 * (g - 1) + a) l
  mean' : 0 < g → g < 9 → ∀ a, a < 16 → s.ms (16 * ((g + 1) % 2) + a) 0 = mean X (16 * (g - 1) + a)
  dev' : 0 < g → g < 9 → m4 → ∀ a, a < 16 → s.rs a 0 = rdev X (16 * (g - 1) + a)

/-- The images copied before step `t` of a group. -/
def kc (t : ℕ) : ℕ := if t < 8 then 16 * ((t + 1) / 2) else 64
/-- The images centred before step `t` of a group. -/
def kd (t : ℕ) : ℕ := if t < 8 then 16 * (t / 2) else 64

/-- What the buffers hold before step `t` of group `g`. -/
abbrev At (g t : ℕ) : St F → Prop := Known X g (kc t) (kd t) (1 ≤ t) (7 ≤ t) (2 ≤ t) (8 ≤ t)

variable {X} {g k kc' kd' : ℕ} {m1 m2 m3 m4 : Prop} {s : St F}

/-- What is known of a state may be weakened. -/
theorem Known.imp {n1 n2 n3 n4 : Prop} (h : Known X g kc' kd' m1 m2 m3 m4 s) (h1 : g < 8 → n1 → m1) (h2 : g < 8 → n2 → m2)
    (h3 : 0 < g → n3 → m3) (h4 : 0 < g → n4 → m4) : Known X g kc' kd' n1 n2 n3 n4 s where
  copied := h.copied
  summed hg m := h.summed hg (h1 hg m)
  meant hg m := h.meant hg (h2 hg m)
  centred := h.centred
  squared hg hg' m := h.squared hg hg' (h3 hg m)
  mean' := h.mean'
  dev' hg hg' m := h.dev' hg hg' (h4 hg m)

/-- Nothing is asked of the buffers at the very start. -/
theorem at_start (s : St F) : At X 0 0 s where
  copied _ n a l hn0 hn := absurd hn (Nat.not_lt_zero n)
  summed _ m := absurd m (by decide)
  meant _ m := absurd m (by decide)
  centred h := absurd h (by decide)
  squared h := absurd h (by decide)
  mean' h := absurd h (by decide)
  dev' h := absurd h (by decide)

/-- The end of a group is the start of the next. -/
theorem at_next (h : At X g 12 s) : At X (g + 1) 0 s where
  copied _ n a l hn0 hn := absurd hn (Nat.not_lt_zero n)
  summed _ m := absurd m (by decide)
  meant _ m := absurd m (by decide)
  centred _ hg n a l hn ha := by
    rw [show kd 0 = 0 from rfl, if_neg (Nat.not_lt_zero n), show g + 1 - 1 = g by omega, show (g + 1 + 1) % 2 = g % 2 by omega]
    exact h.copied (by omega) n a l hn hn
  squared _ _ m := absurd m (by decide)
  mean' _ hg a ha := by
    rw [show g + 1 - 1 = g by omega, show (g + 1 + 1) % 2 = g % 2 by omega]
    exact h.meant (by omega) (by decide) a ha
  dev' _ _ m := absurd m (by decide)

/-- Clearing the first accumulator. -/
theorem Known.clear1 (h : Known X g 0 kd' m1 m2 m3 m4 s) : Known X g 0 kd' True m2 m3 m4 { s with a1 := fun _ _ => zer } where
  copied := h.copied
  summed _ _ a l := rfl
  meant := h.meant
  centred := h.centred
  squared := h.squared
  mean' := h.mean'
  dev' := h.dev'

/-- Clearing the second accumulator. -/
theorem Known.clear2 (h : Known X g kc' 0 m1 m2 m3 m4 s) : Known X g kc' 0 m1 m2 True m4 { s with a2 := fun _ _ => zer } where
  copied := h.copied
  summed := h.summed
  meant := h.meant
  centred := h.centred
  squared _ _ _ a l _ := rfl
  mean' := h.mean'
  dev' := h.dev'

/-- Copying sixteen images. -/
theorem Known.copy (hk : k < 4) (h : Known X g (16 * k) kd' True m2 m3 m4 s) :
    Known X g (16 * (k + 1)) kd' True m2 m3 m4 { s with
      xb := rows (64 * (g % 2) + 16 * k) (fun a b l => X (16 * k + (a - (64 * (g % 2) + 16 * k))) (16 * g + b) l) s.xb
      a1 := fun a l => qfold (fun r => X (16 * k + r) (16 * g + a) l) 16 (s.a1 a l) } where
  copied hg n a l hn0 hn := by
    dsimp only [rows]
    by_cases hn' : n < 16 * k
    · rw [if_neg (by omega)]; exact h.copied hg n a l hn0 hn'
    · rw [if_pos (by omega), show 16 * k + (64 * (g % 2) + n - (64 * (g % 2) + 16 * k)) = n by omega]
  summed hg _ a l := by
    dsimp only
    rw [h.summed hg trivial, show 16 * (k + 1) = 16 * k + 16 by omega]
    exact (qfold_add (fun n => X n (16 * g + a) l) _ _ _).symm
  meant := h.meant
  centred hg hg' n a l hn ha := by
    dsimp only [rows]
    rw [if_neg (by omega)]
    exact h.centred hg hg' n a l hn ha
  squared := h.squared
  mean' := h.mean'
  dev' := h.dev'

/-- Writing the means of a summed group. -/
theorem Known.means (h : Known X g 64 kd' True m2 m3 m4 s) :
    Known X g 64 kd' True True m3 m4 { s with
      ms := fun a b => if 16 * (g % 2) ≤ a ∧ a < 16 * (g % 2) + 16 then avg (s.a1 (a - 16 * (g % 2))) else s.ms a b } where
  copied := h.copied
  summed := h.summed
  meant hg _ a ha := by
    show (if _ then _ else _) = _
    rw [if_pos (by omega), show 16 * (g % 2) + a - 16 * (g % 2) = a by omega]
    exact avg_congr fun l _ => h.summed hg trivial a l
  centred := h.centred
  squared := h.squared
  mean' hg hg' a ha := by
    show (if _ then _ else _) = _
    rw [if_neg (by omega)]
    exact h.mean' hg hg' a ha
  dev' := h.dev'

/-- Centring sixteen images of the group before. -/
theorem Known.centre (hk : k < 4) (hg0 : 0 < g) (hg9 : g < 9) (h : Known X g kc' (16 * k) m1 m2 True m4 s) :
    Known X g kc' (16 * (k + 1)) m1 m2 True m4 { s with
      xb := rows (64 * ((g + 1) % 2) + 16 * k) (fun a b l => cen (s.xb a b l) (s.ms (16 * ((g + 1) % 2) + b) 0)) s.xb
      a2 := fun a l => qfold (fun r => sq1 (cen (s.xb (64 * ((g + 1) % 2) + 16 * k + r) a l) (s.ms (16 * ((g + 1) % 2) + a) 0))) 16 (s.a2 a l) } where
  copied hg n a l hn0 hn := by
    dsimp only [rows]
    rw [if_neg (by omega)]
    exact h.copied hg n a l hn0 hn
  summed := h.summed
  meant := h.meant
  centred hg hg' n a l hn ha := by
    dsimp only [rows]
    have hc := h.centred hg hg' n a l hn ha
    by_cases hn1 : n < 16 * k
    · rw [if_neg (by omega), if_pos (by omega), hc, if_pos hn1]
    · by_cases hn2 : n < 16 * k + 16
      · rw [if_pos (by omega), if_pos (by omega), hc, if_neg hn1, h.mean' hg hg' a ha]; rfl
      · rw [if_neg (by omega), if_neg (by omega), hc, if_neg hn1]
  squared hg hg' _ a l ha := by
    show qfold _ 16 (s.a2 a l) = _
    rw [h.squared hg hg' trivial a l ha, show 16 * (k + 1) = 16 * k + 16 by omega]
    refine Eq.trans ?_ (qfold_add (fun n => sq1 (dev X n (16 * (g - 1) + a) l)) _ _ _).symm
    refine qfold_congr (fun r hr => ?_) _
    rw [Nat.add_assoc, h.centred hg hg' (16 * k + r) a l (by omega) ha, if_neg (by omega), h.mean' hg hg' a ha]; rfl
  mean' := h.mean'
  dev' := h.dev'

/-- Writing the reciprocal deviations of the group before. -/
theorem Known.recips (h : Known X g kc' 64 m1 m2 True m4 s) :
    Known X g kc' 64 m1 m2 True True { s with rs := fun a _ => rec1 (avg (s.a2 a)) } where
  copied := h.copied
  summed := h.summed
  meant := h.meant
  centred := h.centred
  squared := h.squared
  mean' := h.mean'
  dev' hg hg' _ a ha := congrArg rec1 (avg_congr fun l _ => h.squared hg hg' trivial a l ha)

/-- The values the scaling step writes. -/
theorem Known.scaled {W B : ℕ → F .f32} (hk : k < 4) (hg : 0 < g) (hg' : g < 9) (h : Known X g kc' 64 m1 m2 m3 True s) (r a l : ℕ) (hr : r < 16) (ha : a < 16) :
    out1 (s.xb (64 * ((g + 1) % 2) + 16 * k + r) a l) (s.rs a 0) (W (16 * (g - 1) + a)) (B (16 * (g - 1) + a)) =
      res X W B (16 * k + r) (16 * (g - 1) + a) l := by
  rw [Nat.add_assoc, h.centred hg hg' (16 * k + r) a l (by omega) ha, if_pos (by omega), h.dev' hg hg' trivial a ha]; rfl

end Cert.Bn
-- ==== Proof.Steps.lean ====
/-
  What each phase of the kernel does to the buffers it works on.
-/
module

public import proofs.«01_k».proof.Proof.Rules
public import proofs.«01_k».proof.Proof.Spec

@[expose] public section

noncomputable section

namespace Cert.Bn

open Idealize.ShloMosaic Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]

/-! ## One row of a chunk -/

/-- A loaded row seen as a chunk. -/
theorem row_apply {α : Type} (v : SRow.Idx → α) (y : SChk.Idx) :
    shapeCast SChk v row_chk y = v (Fin.cons (⟨0, Nat.one_pos⟩ : Fin 1) y) :=
  shapeCast_dropUnit_apply ![16, 1024] v row_chk y

/-- A chunk seen as a row. -/
theorem chk_apply {α : Type} (v : SChk.Idx → α) (x : SRow.Idx) : shapeCast SRow v chk_row x = v fun a => x a.succ :=
  shapeCast_addUnit_apply ![16, 1024] v chk_row x

/-- One number per channel, over the lanes of a chunk. -/
theorem col_apply (f : ℕ → F .f32) (y : SChk.Idx) : broadcastTo SChk (tab2 (fun a _ => f a) : FVec F SCol .f32) col_chk y = f (y 0).val := rfl

variable {nD : ℕ} {τ : Topo} {sig : RefSig} {Ix : Type} [DecidableEq Ix] {Name : Type} [DecidableEq Name]
  {U : Type} [URA U] {Lvl : Type} [Preorder Lvl] {Λ : Labels}
  {defs : Defs nD τ sig (Elt F) Λ} (𝒱 : Variants) (c : Dev nD) (bd : Option 𝒱.V) (E : Set Name)

local notation "𝕄" => MT nD τ sig Ix (Elt F) Name U Lvl

/-- Owning an array at equal contents is the same. -/
theorem owns_congr {sp : Space} {s : Shape} {e : EltTy} {m : Memref sig .tc sp s e} {q : PosShare TreeShare} {X Y : s.Idx → Elt F e}
    (h : X = Y) : (owns (c.tc : Thread nD τ) m q X : sProp 𝕄) ⊢ owns (c.tc : Thread nD τ) m q Y := by rw [h]

/-- Clearing an accumulator leaves zeros. -/
theorem wp_clear (m : Memref sig .tc .vmem SAcc .f32) (X : SAcc.Idx → Elt F .f32) :
    (owns (c.tc : Thread nD τ) m fullShare X : sProp 𝕄) ⊢
      wp frame (wpE defs 𝒱 (c.tc : Thread nD τ) bd) E (clear m) fun _ => owns (c.tc : Thread nD τ) m fullShare (tab2 fun _ _ => zer) := by
  obtain ⟨f, rfl⟩ : ∃ f, X = tab2 f := ⟨un2 X, (tab2_un2 X).symm⟩
  unfold clear
  iintro H
  iapply (owns_load 𝒱 c bd E) $$ H
  iintro H
  iapply (owns_store_last 𝒱 c bd E ?_) $$ H
  exact owns_congr c ((overlay2 _ _ _ f (fun _ _ => zer) _ fun x => rfl).trans
    (tab2_congr fun x y hx hy => if_pos ⟨⟨Nat.zero_le _, by show x < 0 + 16; omega⟩, Nat.zero_le _, by show y < 0 + 4096; omega⟩))

/-- A chunk of an accumulator, when `row` adds one rounded term at every place and carries `R` on. -/
theorem wp_chunk (acc : Memref sig .tc .vmem SAcc .f32)
    (row : Fin 4 → Fin 16 → FVec F SChk .f32 → Prog (TpuEff nD τ sig (Elt F) Λ .tc) (FVec F SChk .f32)) (j : Fin 4)
    (R : ℕ → sProp 𝕄) (g : ℕ → ℕ → ℕ → F .f32) (A : ℕ → ℕ → F .f32)
    (hrow : ∀ (r : Fin 16) (v : FVec F SChk .f32), R r.val ⊢ wp frame (wpE defs 𝒱 (c.tc : Thread nD τ) bd) E (row j r v) fun v' =>
      iprop(⌜v' = fun y => q1 (FloatOps.addf (v y) (g r.val (y 0).val (1024 * j.val + (y 1).val)))⌝ ∗ R (r.val + 1))) :
    iprop(owns (c.tc : Thread nD τ) acc fullShare (tab2 A) ∗ R 0) ⊢
      wp frame (wpE defs 𝒱 (c.tc : Thread nD τ) bd) E (chunk acc row j) fun _ =>
        iprop(owns (c.tc : Thread nD τ) acc fullShare
          (tab2 fun a l => if 1024 * j.val ≤ l ∧ l < 1024 * j.val + 1024 then qfold (fun k => g k a l) 16 (A a l) else A a l) ∗ R 16) := by
  unfold chunk
  iintro ⟨H, HR⟩
  iapply (owns_load 𝒱 c bd E) $$ H
  iintro H
  rw [wp_bind]
  let z : FVec F SChk .f32 := fun y => A (y 0).val (1024 * j.val + (y 1).val)
  have hz : (fun x => tab2 A ((Rect.unit (s := SAcc) ![0, 1024 * j.val] SChk.size (in_acc j)).toLoadRect.idx x)) = z := by
    funext x
    refine (tab2_idx _ _ _ A x).trans ?_
    show A (0 + (x 0).val) (1024 * j.val + (x 1).val) = A (x 0).val (1024 * j.val + (x 1).val)
    rw [Nat.zero_add]
  have hl := wp_loop (defs := defs) 𝒱 c bd E 16 (row j)
    (fun k v => iprop(⌜v = fun y => qfold (fun i => g i (y 0).val (1024 * j.val + (y 1).val)) k (z y)⌝ ∗ R k))
    (fun r v => by
      iintro ⟨%hv, HR⟩
      ihave W := (hrow r v) $$ HR
      iapply (wp_mono frame (wpE defs 𝒱 (c.tc : Thread nD τ) bd) E ?_) $$ W
      intro v'
      iintro ⟨%hv', HR⟩
      isplitr
      · ipureintro; rw [hv', hv]; rfl
      iexact HR) z
  rw [hz]
  ihave W := hl $$ [HR]
  · isplitr
    · ipureintro; rfl
    iexact HR
  iapply (wp_wand frame (wpE defs 𝒱 (c.tc : Thread nD τ) bd) E) $$ W
  iintro %b ⟨%hb, HR⟩
  iapply (owns_load 𝒱 c bd E) $$ H
  iintro H
  iapply (wp_mono frame (wpE defs 𝒱 (c.tc : Thread nD τ) bd) E (Q := fun _ => iprop(owns (c.tc : Thread nD τ) acc fullShare _ ∗ R 16)) ?_)
  rotate_left
  · iapply (wp_frame_r frame (wpE defs 𝒱 (c.tc : Thread nD τ) bd) E)
    isplitl [H]
    · iapply (owns_store_last 𝒱 c bd E .rfl) $$ H
    iexact HR
  intro u
  refine sep_mono_left (owns_congr c ?_)
  rw [shapeCast_self]
  refine (overlay2 _ _ _ A (fun a l => qfold (fun k => g k a l) 16 (A a l)) _ fun x => ?_).trans (tab2_congr fun x y hx hy => ?_)
  · rw [hb]
    show qfold _ 16 (A (x 0).val (1024 * j.val + (x 1).val)) = qfold (fun k => g k (0 + (x 0).val) _) 16 (A (0 + (x 0).val) _)
    rw [Nat.zero_add]; rfl
  · refine if_congr ?_ rfl rfl
    show (0 ≤ x ∧ x < 0 + 16) ∧ (1024 * j.val ≤ y ∧ y < 1024 * j.val + 1024) ↔ _
    omega

/-- Four chunks of an accumulator, when `row` adds one rounded term at every place and carries `R` on. -/
theorem wp_sweep (acc : Memref sig .tc .vmem SAcc .f32)
    (row : Fin 4 → Fin 16 → FVec F SChk .f32 → Prog (TpuEff nD τ sig (Elt F) Λ .tc) (FVec F SChk .f32))
    (R : ℕ → sProp 𝕄) (g : ℕ → ℕ → ℕ → F .f32) (A : ℕ → ℕ → F .f32)
    (hrow : ∀ (j : Fin 4) (r : Fin 16) (v : FVec F SChk .f32), R (16 * j.val + r.val) ⊢
      wp frame (wpE defs 𝒱 (c.tc : Thread nD τ) bd) E (row j r v) fun v' =>
        iprop(⌜v' = fun y => q1 (FloatOps.addf (v y) (g r.val (y 0).val (1024 * j.val + (y 1).val)))⌝ ∗ R (16 * j.val + (r.val + 1)))) :
    iprop(owns (c.tc : Thread nD τ) acc fullShare (tab2 A) ∗ R 0) ⊢
      wp frame (wpE defs 𝒱 (c.tc : Thread nD τ) bd) E (loop 4 (fun j _ => chunk acc row j) ⟨⟩) fun _ =>
        iprop(owns (c.tc : Thread nD τ) acc fullShare (tab2 fun a l => qfold (fun k => g k a l) 16 (A a l)) ∗ R 64) := by
  have hl := wp_loop (defs := defs) 𝒱 c bd E 4 (fun (j : Fin 4) (_ : PUnit.{1}) => chunk acc row j)
    (fun k _ => iprop(owns (c.tc : Thread nD τ) acc fullShare
      (tab2 fun a l => if l < 1024 * k then qfold (fun i => g i a l) 16 (A a l) else A a l) ∗ R (16 * k)))
    (fun j _ => by
      refine (wp_chunk 𝒱 c bd E acc row j (fun r => R (16 * j.val + r)) g _ (hrow j)).trans ?_
      refine wp_mono _ _ _ fun _ => sep_mono_left (owns_congr c (tab2_congr fun x y hx hy => ?_))
      by_cases h1 : y < 1024 * j.val
      · rw [if_neg (by omega), if_pos h1, if_pos (by omega)]
      · by_cases h2 : y < 1024 * j.val + 1024
        · rw [if_pos (by omega), if_neg h1, if_pos (by omega)]
        · rw [if_neg (by omega), if_neg h1, if_neg (by omega)]) ⟨⟩
  refine Entails.trans (sep_mono_left (owns_congr c (tab2_congr fun x y hx hy => ?_))) (hl.trans (wp_mono _ _ _ fun _ =>
    sep_mono_left (owns_congr c (tab2_congr fun x y hx hy => ?_))))
  · rw [if_neg (by omega)]
  · rw [if_pos (by omega)]

/-! ## The rows of a kept group -/

/-- The kept copy when the first `n` pieces of sixteen rows from `base` have been rewritten, chunk by chunk. -/
def part (base n : ℕ) (h bf : ℕ → ℕ → ℕ → F .f32) (a b l : ℕ) : F .f32 :=
  if base ≤ a ∧ a < base + 16 ∧ 16 * (l / 1024) + (a - base) < n then h a b l else bf a b l

/-- Before any piece is rewritten the copy is as it was. -/
theorem part_zero (base : ℕ) (h bf : ℕ → ℕ → ℕ → F .f32) : (tab3 (part base 0 h bf) : SBuf.Idx → F .f32) = tab3 bf :=
  tab3_congr fun a b l _ _ _ => if_neg (by omega)

/-- After all 64 pieces the sixteen rows are rewritten. -/
theorem part_all (base : ℕ) (h bf : ℕ → ℕ → ℕ → F .f32) : (tab3 (part base 64 h bf) : SBuf.Idx → F .f32) = tab3 (rows base h bf) :=
  tab3_congr fun a b l _ _ _ => if_congr (by omega) rfl rfl

/-- Writing one more piece. -/
theorem part_step (P : Place) (base : ℕ) (hP : ∀ j r, P.off j r = ![base + r.val, 0, 1024 * j.val]) (j : Fin 4) (r : Fin 16)
    (h bf : ℕ → ℕ → ℕ → F .f32) (w : (Rect.unit (s := SBuf) (P.off j r) SRow.size (P.inb j r)).shape.Idx → F .f32)
    (hw : ∀ x, w x = h (base + r.val) (x 1).val (1024 * j.val + (x 2).val)) :
    (Rect.unit (s := SBuf) (P.off j r) SRow.size (P.inb j r)).overlay (tab3 (part base (16 * j.val + r.val) h bf)) w =
      tab3 (part base (16 * j.val + (r.val + 1)) h bf) := by
  have h0 : P.off j r 0 = base + r.val := by rw [hP]; rfl
  have h1 : P.off j r 1 = 0 := by rw [hP]; rfl
  have h2 : P.off j r 2 = 1024 * j.val := by rw [hP]; rfl
  refine (overlay3 _ _ _ _ h w fun x => ?_).trans (tab3_congr fun a b l ha hb hl => ?_)
  · have hx : (x 0).val < 1 := (x 0).isLt
    rw [hw, h0, h1, h2, Nat.zero_add, show (x 0).val = 0 by omega, Nat.add_zero]
  · rw [h0, h1, h2]
    show (if (base + r.val ≤ a ∧ a < base + r.val + 1) ∧ (0 ≤ b ∧ b < 0 + 16) ∧ (1024 * j.val ≤ l ∧ l < 1024 * j.val + 1024) then _ else _) = _
    have := r.isLt
    unfold part
    by_cases hin : (base + r.val ≤ a ∧ a < base + r.val + 1) ∧ (0 ≤ b ∧ b < 0 + 16) ∧ (1024 * j.val ≤ l ∧ l < 1024 * j.val + 1024)
    · rw [if_pos hin, if_pos (by omega)]
    · rw [if_neg hin]; exact if_congr (by omega) rfl rfl

/-- A piece of the kept copy not yet rewritten. -/
theorem part_read (P : Place) (base : ℕ) (hP : ∀ j r, P.off j r = ![base + r.val, 0, 1024 * j.val]) (j : Fin 4) (r : Fin 16)
    (h bf : ℕ → ℕ → ℕ → F .f32) (x : (Rect.unit (s := SBuf) (P.off j r) SRow.size (P.inb j r)).shape.Idx) :
    tab3 (part base (16 * j.val + r.val) h bf) ((Rect.unit (s := SBuf) (P.off j r) SRow.size (P.inb j r)).toLoadRect.idx x) =
      bf (base + r.val) (x 1).val (1024 * j.val + (x 2).val) := by
  have h0 : P.off j r 0 = base + r.val := by rw [hP]; rfl
  have h1 : P.off j r 1 = 0 := by rw [hP]; rfl
  have h2 : P.off j r 2 = 1024 * j.val := by rw [hP]; rfl
  have hx : (x 0).val < 1 := (x 0).isLt
  have hx2 : (x 2).val < 1024 := (x 2).isLt
  refine (tab3_idx _ _ _ _ x).trans ?_
  rw [h0, h1, h2, Nat.zero_add, show (x 0).val = 0 by omega, Nat.add_zero]
  exact if_neg (by omega)

/-- Copying a window of x: its rows enter the kept copy and the accumulator. -/
theorem wp_copyPhase (x : Memref sig .tc .vmem SBlk .f32) (xb : Memref sig .tc .vmem SBuf .f32) (acc : Memref sig .tc .vmem SAcc .f32)
    (P : Place) (base : ℕ) (hP : ∀ j r, P.off j r = ![base + r.val, 0, 1024 * j.val]) (q : PosShare TreeShare)
    (xf bf : ℕ → ℕ → ℕ → F .f32) (A : ℕ → ℕ → F .f32) :
    iprop(owns (c.tc : Thread nD τ) acc fullShare (tab2 A) ∗ (owns (c.tc : Thread nD τ) x q (tab3 xf) ∗ owns (c.tc : Thread nD τ) xb fullShare (tab3 bf))) ⊢
      wp frame (wpE defs 𝒱 (c.tc : Thread nD τ) bd) E (copyPhase x xb acc P) fun _ =>
        (iprop(owns (c.tc : Thread nD τ) acc fullShare (tab2 fun a l => qfold (fun k => xf k a l) 16 (A a l)) ∗
          (owns (c.tc : Thread nD τ) x q (tab3 xf) ∗ owns (c.tc : Thread nD τ) xb fullShare (tab3 (rows base (fun a b l => xf (a - base) b l) bf)))) : sProp 𝕄) := by
  have h := wp_sweep (Ix := Ix) (Name := Name) (U := U) (Lvl := Lvl) (defs := defs) 𝒱 c bd E acc (copyRow x xb P)
    (fun n => iprop(owns (c.tc : Thread nD τ) x q (tab3 xf) ∗ owns (c.tc : Thread nD τ) xb fullShare (tab3 (part base n (fun a b l => xf (a - base) b l) bf))))
    xf A (fun j r v => by
      unfold copyRow
      iintro ⟨HX, HB⟩
      iapply (owns_load 𝒱 c bd E) $$ HX
      iintro HX
      iapply (owns_load 𝒱 c bd E) $$ HB
      iintro HB
      iapply (owns_store 𝒱 c bd E) $$ HB
      iintro HB
      have hx : ∀ y : SChk.Idx, shapeCast SChk (fun x => tab3 xf ((Rect.unit (s := SBlk) ![r.val, 0, 1024 * j.val] SRow.size (in_blk r j)).toLoadRect.idx x)) row_chk y =
          xf r.val (y 0).val (1024 * j.val + (y 1).val) := fun y => by
        refine (row_apply _ y).trans ((tab3_idx _ _ _ xf _).trans ?_)
        show xf (r.val + 0) (0 + (y 0).val) _ = _
        rw [Nat.zero_add, Nat.add_zero]; rfl
      iapply (le_wp_ret frame (wpE defs 𝒱 (c.tc : Thread nD τ) bd) E _ _)
      beta_reduce
      isplitr
      · ipureintro
        funext y
        exact congrArg (fun z => q1 (FloatOps.addf (v y) z)) (hx y)
      isplitl [HX]
      · iexact HX
      iapply (owns_congr c (part_step P base hP j r _ bf _ fun x => (chk_apply _ x).trans ((hx _).trans (by
        show xf r.val _ _ = xf (base + r.val - base) _ _
        rw [Nat.add_sub_cancel_left]; rfl)))) $$ HB)
  refine Entails.trans (sep_mono_right (sep_mono_right (owns_congr c (part_zero base _ bf).symm))) (h.trans (wp_mono _ _ _ fun _ =>
    sep_mono_right (sep_mono_right (owns_congr c (part_all base _ bf)))))

/-- Centring sixteen kept rows: they are replaced by the centred values, and the squares enter the accumulator. -/
theorem wp_centrePhase (xb : Memref sig .tc .vmem SBuf .f32) (acc : Memref sig .tc .vmem SAcc .f32) (ms : Memref sig .tc .vmem STwo .f32)
    (P : Place) (o : Fin 2 → ℕ) (ho : ∀ a, o a + SCol.size a ≤ STwo.size a) (base mo : ℕ)
    (hP : ∀ j r, P.off j r = ![base + r.val, 0, 1024 * j.val]) (hO : o = ![mo, 0]) (q : PosShare TreeShare)
    (mf : ℕ → ℕ → F .f32) (bf : ℕ → ℕ → ℕ → F .f32) (A : ℕ → ℕ → F .f32) :
    iprop(owns (c.tc : Thread nD τ) ms q (tab2 mf) ∗ (owns (c.tc : Thread nD τ) acc fullShare (tab2 A) ∗ owns (c.tc : Thread nD τ) xb fullShare (tab3 bf))) ⊢
      wp frame (wpE defs 𝒱 (c.tc : Thread nD τ) bd) E (centrePhase xb acc ms P o ho) fun _ =>
        (iprop(owns (c.tc : Thread nD τ) ms q (tab2 mf) ∗ (owns (c.tc : Thread nD τ) acc fullShare
          (tab2 fun a l => qfold (fun k => sq1 (cen (bf (base + k) a l) (mf (mo + a) 0))) 16 (A a l)) ∗
          owns (c.tc : Thread nD τ) xb fullShare (tab3 (rows base (fun a b l => cen (bf a b l) (mf (mo + b) 0)) bf)))) : sProp 𝕄) := by
  subst hO
  unfold centrePhase
  have hm : (fun x => tab2 mf ((Rect.unit (s := STwo) ![mo, 0] SCol.size ho).toLoadRect.idx x) : SCol.Idx → F .f32) = tab2 fun a _ => mf (mo + a) 0 := by
    funext x
    have hx : (x 1).val < 1 := (x 1).isLt
    refine (tab2_idx _ _ _ mf x).trans ?_
    show mf (mo + (x 0).val) (0 + (x 1).val) = _
    rw [show (x 1).val = 0 by omega]; rfl
  iintro ⟨HM, H⟩
  iapply (owns_load 𝒱 c bd E) $$ HM
  iintro HM
  have h := fun (mu : FVec F SCol .f32) (hmu : mu = tab2 fun a _ => mf (mo + a) 0) => wp_sweep (Ix := Ix) (Name := Name) (U := U) (Lvl := Lvl) (defs := defs) 𝒱 c bd E acc (centreRow xb P mu)
    (fun n => owns (c.tc : Thread nD τ) xb fullShare (tab3 (part base n (fun a b l => cen (bf a b l) (mf (mo + b) 0)) bf)))
    (fun k a l => sq1 (cen (bf (base + k) a l) (mf (mo + a) 0))) A (fun j r v => by
      subst hmu
      unfold centreRow
      iintro HB
      iapply (owns_load 𝒱 c bd E) $$ HB
      iintro HB
      iapply (owns_load 𝒱 c bd E) $$ HB
      iintro HB
      iapply (owns_store 𝒱 c bd E) $$ HB
      iintro HB
      have hx : ∀ y : SChk.Idx, shapeCast SChk (fun x => tab3 (part base (16 * j.val + r.val) (fun a b l => cen (bf a b l) (mf (mo + b) 0)) bf)
            ((Rect.unit (s := SBuf) (P.off j r) SRow.size (P.inb j r)).toLoadRect.idx x)) row_chk y =
          bf (base + r.val) (y 0).val (1024 * j.val + (y 1).val) := fun y =>
        (row_apply _ y).trans (part_read P base hP j r _ bf _)
      have hd : ∀ y : SChk.Idx, quant (subf (shapeCast SChk (fun x => tab3 (part base (16 * j.val + r.val) (fun a b l => cen (bf a b l) (mf (mo + b) 0)) bf)
            ((Rect.unit (s := SBuf) (P.off j r) SRow.size (P.inb j r)).toLoadRect.idx x)) row_chk)
              (broadcastTo SChk (tab2 (fun a _ => mf (mo + a) 0) : FVec F SCol .f32) col_chk)) y =
          cen (bf (base + r.val) (y 0).val (1024 * j.val + (y 1).val)) (mf (mo + (y 0).val) 0) := fun y =>
        congrArg (fun z => q1 (FloatOps.subf z (mf (mo + (y 0).val) 0))) (hx y)
      iapply (le_wp_ret frame (wpE defs 𝒱 (c.tc : Thread nD τ) bd) E _ _)
      beta_reduce
      isplitr
      · ipureintro
        funext y
        exact congrArg (fun z => q1 (FloatOps.addf (v y) (sq1 z))) (hd y)
      iapply (owns_congr c (part_step P base hP j r _ bf _ fun x => (chk_apply _ x).trans (hd _))) $$ HB)
  iapply (wp_mono frame (wpE defs 𝒱 (c.tc : Thread nD τ) bd) E (fun _ => sep_mono_right (sep_mono_right (owns_congr c (part_all base _ bf)))))
  iapply (wp_frame_l frame (wpE defs 𝒱 (c.tc : Thread nD τ) bd) E)
  isplitl [HM]
  · iexact HM
  iapply (h _ hm)
  iapply (sep_mono_right (owns_congr c (part_zero base _ bf).symm))
  iexact H

/-- Writing the means of a group: rows from `mo` become the averages. -/
theorem wp_meanPhase (acc : Memref sig .tc .vmem SAcc .f32) (ms : Memref sig .tc .vmem STwo .f32)
    (o : Fin 2 → ℕ) (ho : ∀ a, o a + SCol.size a ≤ STwo.size a) (mo : ℕ) (hO : o = ![mo, 0]) (q : PosShare TreeShare)
    (A mf : ℕ → ℕ → F .f32) :
    iprop(owns (c.tc : Thread nD τ) acc q (tab2 A) ∗ owns (c.tc : Thread nD τ) ms fullShare (tab2 mf)) ⊢
      wp frame (wpE defs 𝒱 (c.tc : Thread nD τ) bd) E (meanPhase acc ms o ho) fun _ =>
        (iprop(owns (c.tc : Thread nD τ) acc q (tab2 A) ∗ owns (c.tc : Thread nD τ) ms fullShare
          (tab2 fun a b => if mo ≤ a ∧ a < mo + 16 then avg (A (a - mo)) else mf a b)) : sProp 𝕄) := by
  subst hO
  unfold meanPhase
  have ha : (fun x => tab2 A ((Rect.unit (s := SAcc) ![0, 0] SAcc.size all_acc).toLoadRect.idx x)) = (tab2 A : FVec F SAcc .f32) := by
    funext x
    refine (tab2_idx _ _ _ A x).trans ?_
    show A (0 + (x 0).val) (0 + (x 1).val) = _
    rw [Nat.zero_add, Nat.zero_add]; rfl
  iintro ⟨HA, HM⟩
  iapply (owns_load 𝒱 c bd E) $$ HA
  iintro HA
  iapply (owns_load 𝒱 c bd E) $$ HM
  iintro HM
  iapply (wp_frame_l frame (wpE defs 𝒱 (c.tc : Thread nD τ) bd) E)
  isplitl [HA]
  · iexact HA
  iapply (owns_store_last 𝒱 c bd E ?_) $$ HM
  refine owns_congr c ((overlay2 _ _ _ mf (fun a _ => avg (A (a - mo))) _ fun x => ?_).trans (tab2_congr fun x y hx hy => ?_))
  · rw [shapeCast_self, ha, average_tab]
    show avg (A (x 0).val) = avg (A (mo + (x 0).val - mo))
    rw [Nat.add_sub_cancel_left]
  · refine if_congr ?_ rfl rfl
    show (mo ≤ x ∧ x < mo + 16) ∧ (0 ≤ y ∧ y < 0 + 1) ↔ _
    omega

/-- Writing the reciprocal deviations of a group. -/
theorem wp_recipPhase (acc : Memref sig .tc .vmem SAcc .f32) (rs : Memref sig .tc .vmem SCol .f32) (q : PosShare TreeShare)
    (A rf : ℕ → ℕ → F .f32) :
    iprop(owns (c.tc : Thread nD τ) acc q (tab2 A) ∗ owns (c.tc : Thread nD τ) rs fullShare (tab2 rf)) ⊢
      wp frame (wpE defs 𝒱 (c.tc : Thread nD τ) bd) E (recipPhase acc rs) fun _ =>
        (iprop(owns (c.tc : Thread nD τ) acc q (tab2 A) ∗ owns (c.tc : Thread nD τ) rs fullShare
          (tab2 fun a _ => rec1 (avg (A a)))) : sProp 𝕄) := by
  unfold recipPhase
  have ha : (fun x => tab2 A ((Rect.unit (s := SAcc) ![0, 0] SAcc.size all_acc).toLoadRect.idx x)) = (tab2 A : FVec F SAcc .f32) := by
    funext x
    refine (tab2_idx _ _ _ A x).trans ?_
    show A (0 + (x 0).val) (0 + (x 1).val) = _
    rw [Nat.zero_add, Nat.zero_add]; rfl
  iintro ⟨HA, HM⟩
  iapply (owns_load 𝒱 c bd E) $$ HA
  iintro HA
  iapply (owns_load 𝒱 c bd E) $$ HM
  iintro HM
  iapply (wp_frame_l frame (wpE defs 𝒱 (c.tc : Thread nD τ) bd) E)
  isplitl [HA]
  · iexact HA
  iapply (owns_store_last 𝒱 c bd E ?_) $$ HM
  refine owns_congr c ((overlay2 _ _ _ rf (fun a _ => rec1 (avg (A a))) _ fun x => ?_).trans (tab2_congr fun x y hx hy => if_pos ?_))
  · rw [shapeCast_self, ha, recip_tab]
    show rec1 (avg (A (x 0).val)) = rec1 (avg (A (0 + (x 0).val)))
    rw [Nat.zero_add]
  · show (0 ≤ x ∧ x < 0 + 16) ∧ (0 ≤ y ∧ y < 0 + 1)
    omega

/-- The result's window when its first `n` pieces, row by row, have been written. -/
def filled (n : ℕ) (h of : ℕ → ℕ → ℕ → F .f32) (r a l : ℕ) : F .f32 := if 4 * r + l / 1024 < n then h r a l else of r a l

/-- Writing one more piece of the result's window. -/
theorem filled_step (j : Fin 4) (r : Fin 16) (h of : ℕ → ℕ → ℕ → F .f32)
    (w : (Rect.unit (s := SBlk) ![r.val, 0, 1024 * j.val] SRow.size (in_blk r j)).shape.Idx → F .f32)
    (hw : ∀ x, w x = h r.val (x 1).val (1024 * j.val + (x 2).val)) :
    (Rect.unit (s := SBlk) ![r.val, 0, 1024 * j.val] SRow.size (in_blk r j)).overlay (tab3 (filled (4 * r.val + j.val) h of)) w =
      tab3 (filled (4 * r.val + (j.val + 1)) h of) := by
  refine (overlay3 _ _ _ _ h w fun x => ?_).trans (tab3_congr fun a b l ha hb hl => ?_)
  · have hx : (x 0).val < 1 := (x 0).isLt
    rw [hw]
    show h r.val _ _ = h (r.val + (x 0).val) (0 + (x 1).val) _
    rw [Nat.zero_add, show (x 0).val = 0 by omega]; rfl
  · show (if (r.val ≤ a ∧ a < r.val + 1) ∧ (0 ≤ b ∧ b < 0 + 16) ∧ (1024 * j.val ≤ l ∧ l < 1024 * j.val + 1024) then _ else _) = _
    have := j.isLt
    unfold filled
    by_cases hin : (r.val ≤ a ∧ a < r.val + 1) ∧ (0 ≤ b ∧ b < 0 + 16) ∧ (1024 * j.val ≤ l ∧ l < 1024 * j.val + 1024)
    · rw [if_pos hin, if_pos (by omega)]
    · rw [if_neg hin]; exact if_congr (by omega) rfl rfl

/-- Scaling one row of one chunk. -/
theorem wp_scaleRow (xb : Memref sig .tc .vmem SBuf .f32) (out : Memref sig .tc .vmem SBlk .f32)
    (P : Place) (base : ℕ) (hP : ∀ j r, P.off j r = ![base + r.val, 0, 1024 * j.val]) (qx : PosShare TreeShare)
    (bf of : ℕ → ℕ → ℕ → F .f32) (wf bb rf : ℕ → F .f32) (j : Fin 4) (r : Fin 16) :
    iprop(owns (c.tc : Thread nD τ) xb qx (tab3 bf) ∗ owns (c.tc : Thread nD τ) out fullShare
        (tab3 (filled (4 * r.val + j.val) (fun r a l => out1 (bf (base + r) a l) (rf a) (wf a) (bb a)) of))) ⊢
      wp frame (wpE defs 𝒱 (c.tc : Thread nD τ) bd) E
        (scaleRow xb out P (tab2 fun a _ => rf a) (tab2 fun a _ => wf a) (tab2 fun a _ => bb a) j r) fun _ =>
        (iprop(owns (c.tc : Thread nD τ) xb qx (tab3 bf) ∗ owns (c.tc : Thread nD τ) out fullShare
          (tab3 (filled (4 * r.val + (j.val + 1)) (fun r a l => out1 (bf (base + r) a l) (rf a) (wf a) (bb a)) of))) : sProp 𝕄) := by
  unfold scaleRow
  iintro ⟨HX, HO⟩
  iapply (owns_load 𝒱 c bd E) $$ HX
  iintro HX
  iapply (owns_load 𝒱 c bd E) $$ HO
  iintro HO
  have hx : ∀ y : SChk.Idx, shapeCast SChk (fun x => tab3 bf ((Rect.unit (s := SBuf) (P.off j r) SRow.size (P.inb j r)).toLoadRect.idx x)) row_chk y =
      bf (base + r.val) (y 0).val (1024 * j.val + (y 1).val) := fun y => by
    have h0 : P.off j r 0 = base + r.val := by rw [hP]; rfl
    have h1 : P.off j r 1 = 0 := by rw [hP]; rfl
    have h2 : P.off j r 2 = 1024 * j.val := by rw [hP]; rfl
    refine (row_apply _ y).trans ((tab3_idx _ _ _ bf _).trans ?_)
    rw [h0, h1, h2, Nat.zero_add]; rfl
  have ho : ∀ y : SChk.Idx, quant (addf (quant (mulf (broadcastTo SChk (tab2 (fun a _ => wf a) : FVec F SCol .f32) col_chk)
      (quant (mulf (shapeCast SChk (fun x => tab3 bf ((Rect.unit (s := SBuf) (P.off j r) SRow.size (P.inb j r)).toLoadRect.idx x)) row_chk)
        (broadcastTo SChk (tab2 (fun a _ => rf a) : FVec F SCol .f32) col_chk))))) (broadcastTo SChk (tab2 (fun a _ => bb a) : FVec F SCol .f32) col_chk)) y =
      out1 (bf (base + r.val) (y 0).val (1024 * j.val + (y 1).val)) (rf (y 0).val) (wf (y 0).val) (bb (y 0).val) := fun y =>
    congrArg (fun z => out1 z (rf (y 0).val) (wf (y 0).val) (bb (y 0).val)) (hx y)
  iapply (wp_frame_l frame (wpE defs 𝒱 (c.tc : Thread nD τ) bd) E)
  isplitl [HX]
  · iexact HX
  iapply (owns_store_last 𝒱 c bd E (owns_congr c (filled_step j r _ of _ fun x => (chk_apply _ x).trans (ho _)))) $$ HO

/-- Scaling sixteen kept rows fills the window of the result. -/
theorem wp_scaleRows (xb : Memref sig .tc .vmem SBuf .f32) (out : Memref sig .tc .vmem SBlk .f32)
    (P : Place) (base : ℕ) (hP : ∀ j r, P.off j r = ![base + r.val, 0, 1024 * j.val]) (qx : PosShare TreeShare)
    (bf of : ℕ → ℕ → ℕ → F .f32) (wf bb rf : ℕ → F .f32) (vr vw vb : FVec F SCol .f32)
    (hr : vr = tab2 fun a _ => rf a) (hw : vw = tab2 fun a _ => wf a) (hb : vb = tab2 fun a _ => bb a) :
    iprop(owns (c.tc : Thread nD τ) xb qx (tab3 bf) ∗ owns (c.tc : Thread nD τ) out fullShare (tab3 of)) ⊢
      wp frame (wpE defs 𝒱 (c.tc : Thread nD τ) bd) E
        (loop 16 (fun r _ => loop 4 (fun j _ => scaleRow xb out P vr (shapeCast SCol vw col_col) (shapeCast SCol vb col_col) j r) ⟨⟩) ⟨⟩) fun _ =>
        (iprop(owns (c.tc : Thread nD τ) xb qx (tab3 bf) ∗ owns (c.tc : Thread nD τ) out fullShare
          (tab3 fun r a l => out1 (bf (base + r) a l) (rf a) (wf a) (bb a))) : sProp 𝕄) := by
  rw [shapeCast_self, shapeCast_self, hr, hw, hb]
  have h := wp_loop (Ix := Ix) (Name := Name) (U := U) (Lvl := Lvl) (defs := defs) 𝒱 c bd E 16
    (fun r (_ : PUnit.{1}) => loop 4 (fun j (_ : PUnit.{1}) => scaleRow xb out P (tab2 fun a _ => rf a) (tab2 fun a _ => wf a) (tab2 fun a _ => bb a) j r) ⟨⟩)
    (fun k _ => iprop(owns (c.tc : Thread nD τ) xb qx (tab3 bf) ∗ owns (c.tc : Thread nD τ) out fullShare
      (tab3 (filled (4 * k) (fun r a l => out1 (bf (base + r) a l) (rf a) (wf a) (bb a)) of))))
    (fun r _ => wp_loop (Ix := Ix) (Name := Name) (U := U) (Lvl := Lvl) (defs := defs) 𝒱 c bd E 4
      (fun j (_ : PUnit.{1}) => scaleRow xb out P (tab2 fun a _ => rf a) (tab2 fun a _ => wf a) (tab2 fun a _ => bb a) j r)
      (fun k _ => iprop(owns (c.tc : Thread nD τ) xb qx (tab3 bf) ∗ owns (c.tc : Thread nD τ) out fullShare
        (tab3 (filled (4 * r.val + k) (fun r a l => out1 (bf (base + r) a l) (rf a) (wf a) (bb a)) of))))
      (fun j _ => wp_scaleRow 𝒱 c bd E xb out P base hP qx bf of wf bb rf j r) ⟨⟩) ⟨⟩
  refine Entails.trans (sep_mono_right (owns_congr c (tab3_congr fun x y z hx hy hz => ?_))) (h.trans (wp_mono _ _ _ fun _ =>
    sep_mono_right (owns_congr c (tab3_congr fun x y z hx hy hz => ?_))))
  · exact (if_neg (by omega)).symm
  · exact if_pos (by omega)

/-- The whole phase: the three columns are read, then the rows are scaled. -/
theorem wp_scalePhase (xb : Memref sig .tc .vmem SBuf .f32) (w b rs : Memref sig .tc .vmem SCol .f32) (out : Memref sig .tc .vmem SBlk .f32)
    (P : Place) (base : ℕ) (hP : ∀ j r, P.off j r = ![base + r.val, 0, 1024 * j.val]) (qx qw qb qr : PosShare TreeShare)
    (bf of : ℕ → ℕ → ℕ → F .f32) (wf bb rf : ℕ → ℕ → F .f32) :
    iprop((owns (c.tc : Thread nD τ) rs qr (tab2 rf) ∗ owns (c.tc : Thread nD τ) w qw (tab2 wf) ∗ owns (c.tc : Thread nD τ) b qb (tab2 bb)) ∗
        (owns (c.tc : Thread nD τ) xb qx (tab3 bf) ∗ owns (c.tc : Thread nD τ) out fullShare (tab3 of))) ⊢
      wp frame (wpE defs 𝒱 (c.tc : Thread nD τ) bd) E (scalePhase xb w b rs out P) fun _ =>
        (iprop((owns (c.tc : Thread nD τ) rs qr (tab2 rf) ∗ owns (c.tc : Thread nD τ) w qw (tab2 wf) ∗ owns (c.tc : Thread nD τ) b qb (tab2 bb)) ∗
        (owns (c.tc : Thread nD τ) xb qx (tab3 bf) ∗ owns (c.tc : Thread nD τ) out fullShare
          (tab3 fun r a l => out1 (bf (base + r) a l) (rf a 0) (wf a 0) (bb a 0)))) : sProp 𝕄) := by
  unfold scalePhase
  have hc : ∀ f : ℕ → ℕ → F .f32, (fun x => tab2 f ((Rect.unit (s := SCol) ![0, 0] SCol.size all_col).toLoadRect.idx x)) = (tab2 (fun a _ => f a 0) : FVec F SCol .f32) := fun f => by
    funext x
    have hx : (x 1).val < 1 := (x 1).isLt
    refine (tab2_idx _ _ _ f x).trans ?_
    show f (0 + (x 0).val) (0 + (x 1).val) = f (x 0).val 0
    rw [Nat.zero_add, show (x 1).val = 0 by omega]
  iintro ⟨⟨HR, HW, HB⟩, H⟩
  iapply (owns_load 𝒱 c bd E) $$ HR
  iintro HR
  iapply (owns_load 𝒱 c bd E) $$ HW
  iintro HW
  iapply (owns_load 𝒱 c bd E) $$ HB
  iintro HB
  iapply (wp_frame_l frame (wpE defs 𝒱 (c.tc : Thread nD τ) bd) E)
  isplitl [HR HW HB]
  · isplitl [HR]
    · iexact HR
    isplitl [HW]
    · iexact HW
    iexact HB
  iapply (wp_scaleRows 𝒱 c bd E xb out P base hP qx bf of (fun a => wf a 0) (fun a => bb a 0) (fun a => rf a 0) _ _ _ (hc rf) (hc wf) (hc bb))
  iexact H

end Cert.Bn
-- ==== Proof.Point.lean ====
/-
  One grid point: the seven phases, each under its condition, take the buffers from what they
  hold before the point to what they hold after it.
-/
module

public import proofs.«01_k».proof.Proof.Steps

@[expose] public section

noncomputable section

namespace Cert.Bn

open Idealize.ShloMosaic Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F]
variable {nD : ℕ} {τ : Topo} {sig : RefSig} {Ix : Type} [DecidableEq Ix] {Name : Type} [DecidableEq Name]
  {U : Type} [URA U] {Lvl : Type} [Preorder Lvl] {Λ : Labels}
  {defs : Defs nD τ sig (Elt F) Λ} (𝒱 : Variants) (c : Dev nD) (bd : Option 𝒱.V) (E : Set Name)

local notation "𝕄" => MT nD τ sig Ix (Elt F) Name U Lvl

/-- The five buffers that live through the grid. -/
structure Bufs (sig : RefSig) where
  xb : Memref sig .tc .vmem SBuf .f32
  a1 : Memref sig .tc .vmem SAcc .f32
  a2 : Memref sig .tc .vmem SAcc .f32
  ms : Memref sig .tc .vmem STwo .f32
  rs : Memref sig .tc .vmem SCol .f32

/-- The five buffers hold contents of which `K` is true. -/
def Hold (m : Bufs sig) (K : St F → Prop) : sProp 𝕄 :=
  iprop(∃ s : St F, ⌜K s⌝ ∗ (owns (c.tc : Thread nD τ) m.xb fullShare (tab3 s.xb) ∗ owns (c.tc : Thread nD τ) m.a1 fullShare (tab2 s.a1) ∗
    owns (c.tc : Thread nD τ) m.a2 fullShare (tab2 s.a2) ∗ owns (c.tc : Thread nD τ) m.ms fullShare (tab2 s.ms) ∗
    owns (c.tc : Thread nD τ) m.rs fullShare (tab2 s.rs)))

/-- Holding the buffers at a state with a property is holding them at one with a weaker property. -/
theorem Hold.mono (m : Bufs sig) {K K' : St F → Prop} (h : ∀ s, K s → K' s) : (Hold c m K : sProp 𝕄) ⊢ Hold c m K' := by
  unfold Hold
  iintro ⟨%s, %hs, H⟩
  iexists s
  isplitr
  · ipureintro; exact h s hs
  iexact H

/-- A program run under a condition. -/
theorem wp_when {b : Prop} [Decidable b] {p : b → Prog (TpuEff nD τ sig (Elt F) Λ .tc) PUnit} {P : sProp 𝕄} {Q : sProp 𝕄}
    (hp : ∀ h, P ⊢ wp frame (wpE defs 𝒱 (c.tc : Thread nD τ) bd) E (p h) fun _ => Q) (hn : ¬ b → P ⊢ Q) :
    P ⊢ wp frame (wpE defs 𝒱 (c.tc : Thread nD τ) bd) E (dite b p fun _ => pure ⟨⟩) fun _ => Q := by
  by_cases h : b
  · rw [dif_pos h]; exact hp h
  · rw [dif_neg h]; exact (hn h).trans (le_wp_ret frame (wpE defs 𝒱 (c.tc : Thread nD τ) bd) E PUnit.unit fun _ => Q)

variable (m : Bufs sig) (X : ℕ → ℕ → ℕ → F .f32) {g t : ℕ} {m1 m2 m3 m4 : Prop}

/-- Clearing the first accumulator. -/
theorem wp_when1 {b : Prop} [Decidable b] (hb : b ↔ t = 0 ∧ g < 8) :
    (Hold c m (At X g t) : sProp 𝕄) ⊢ wp frame (wpE defs 𝒱 (c.tc : Thread nD τ) bd) E (dite b (fun _ => clear m.a1) fun _ => pure ⟨⟩) fun _ =>
      Hold c m (Known X g (kc t) (kd t) True (7 ≤ t) (2 ≤ t) (8 ≤ t)) := by
  refine wp_when 𝒱 c bd E (fun h => ?_) (fun h => Hold.mono c m fun s hs => hs.imp (fun hg _ => ?_) (fun _ => id) (fun _ => id) (fun _ => id))
  · obtain ⟨rfl, hg⟩ := hb.mp h
    unfold Hold
    iintro ⟨%s, %hs, HX, HA, H⟩
    ihave W := (wp_clear 𝒱 c bd E m.a1 (tab2 s.a1)) $$ HA
    iapply (wp_wand frame (wpE defs 𝒱 (c.tc : Thread nD τ) bd) E) $$ W
    iintro %_ HA
    iexists { s with a1 := fun _ _ => zer }
    isplitr
    · ipureintro; exact hs.clear1
    isplitl [HX]
    · iexact HX
    isplitl [HA]
    · iexact HA
    iexact H
  · have : ¬ (t = 0 ∧ g < 8) := fun h' => h (hb.mpr h')
    omega

/-- Clearing the second accumulator. -/
theorem wp_when2 {b : Prop} [Decidable b] (hb : b ↔ t = 1 ∧ 0 < g) :
    (Hold c m (Known X g (kc t) (kd t) True (7 ≤ t) (2 ≤ t) (8 ≤ t)) : sProp 𝕄) ⊢
      wp frame (wpE defs 𝒱 (c.tc : Thread nD τ) bd) E (dite b (fun _ => clear m.a2) fun _ => pure ⟨⟩) fun _ =>
      Hold c m (Known X g (kc t) (kd t) True (7 ≤ t) (1 ≤ t) (8 ≤ t)) := by
  refine wp_when 𝒱 c bd E (fun h => ?_) (fun h => Hold.mono c m fun s hs => hs.imp (fun _ => id) (fun _ => id) (fun hg _ => ?_) (fun _ => id))
  · obtain ⟨rfl, hg⟩ := hb.mp h
    unfold Hold
    iintro ⟨%s, %hs, HX, HA, HB, H⟩
    ihave W := (wp_clear 𝒱 c bd E m.a2 (tab2 s.a2)) $$ HB
    iapply (wp_wand frame (wpE defs 𝒱 (c.tc : Thread nD τ) bd) E) $$ W
    iintro %_ HB
    iexists { s with a2 := fun _ _ => zer }
    isplitr
    · ipureintro; exact hs.clear2.imp (fun _ => id) (fun _ => id) (fun _ _ => trivial) (fun _ => id)
    isplitl [HX]
    · iexact HX
    isplitl [HA]
    · iexact HA
    isplitl [HB]
    · iexact HB
    iexact H
  · have : ¬ (t = 1 ∧ 0 < g) := fun h' => h (hb.mpr h')
    omega

/-- Outside the group's reach, nothing is claimed of the first sum or the copies. -/
theorem Known.free {kc₁ kc₂ kd' : ℕ} {s : St F} (hg : ¬ g < 8) (h : Known X g kc₁ kd' m1 m2 m3 m4 s) : Known X g kc₂ kd' m1 m2 m3 m4 s where
  copied h' := absurd h' hg
  summed h' := absurd h' hg
  meant := h.meant
  centred := h.centred
  squared := h.squared
  mean' := h.mean'
  dev' := h.dev'

/-- Before the second group, nothing is claimed of a group before. -/
theorem Known.free' {kc' kd₁ kd₂ : ℕ} {s : St F} (hg : ¬ 0 < g) (h : Known X g kc' kd₁ m1 m2 m3 m4 s) : Known X g kc' kd₂ m1 m2 m3 m4 s where
  copied := h.copied
  summed := h.summed
  meant := h.meant
  centred h' := absurd h' hg
  squared h' := absurd h' hg
  mean' h' := absurd h' hg
  dev' h' := absurd h' hg

/-- Copying a window of x. -/
theorem wp_when3 {b : Prop} [Decidable b] (hb : b ↔ (t < 8 ∧ t % 2 = 0) ∧ g < 8) (P : b → Place)
    (hP : ∀ h j r, (P h).off j r = ![64 * (g % 2) + 16 * (t / 2) + r.val, 0, 1024 * j.val])
    (x : Memref sig .tc .vmem SBlk .f32) (v : SBlk.Idx → F .f32) (hv : b → v = tab3 fun r a l => X (16 * (t / 2) + r) (16 * g + a) l) :
    iprop(Hold c m (Known X g (kc t) (kd t) True (7 ≤ t) (1 ≤ t) (8 ≤ t)) ∗ owns (c.tc : Thread nD τ) x fullShare v) ⊢
      wp frame (wpE defs 𝒱 (c.tc : Thread nD τ) bd) E (dite b (fun h => copyPhase x m.xb m.a1 (P h)) fun _ => pure ⟨⟩) fun _ =>
      (iprop(Hold c m (Known X g (kc (t + 1)) (kd t) True (7 ≤ t) (1 ≤ t) (8 ≤ t)) ∗ owns (c.tc : Thread nD τ) x fullShare v) : sProp 𝕄) := by
  refine wp_when 𝒱 c bd E (fun h => ?_) (fun h => sep_mono_left (Hold.mono c m fun s hs => ?_))
  · obtain ⟨⟨ht, ht'⟩, hg⟩ := hb.mp h
    rw [hv h]
    have e1 : kc t = 16 * (t / 2) := by unfold kc; rw [if_pos ht]; omega
    have e2 : kc (t + 1) = 16 * (t / 2 + 1) := by unfold kc; split <;> omega
    rw [e1, e2]
    unfold Hold
    iintro ⟨⟨%s, %hs, HB, HA, H⟩, HX⟩
    ihave W := (wp_copyPhase 𝒱 c bd E x m.xb m.a1 (P h) (64 * (g % 2) + 16 * (t / 2)) (hP h) fullShare
      (fun r a l => X (16 * (t / 2) + r) (16 * g + a) l) s.xb s.a1) $$ [HA HX HB]
    · isplitl [HA]
      · iexact HA
      isplitl [HX]
      · iexact HX
      iexact HB
    iapply (wp_wand frame (wpE defs 𝒱 (c.tc : Thread nD τ) bd) E) $$ W
    iintro %_ ⟨HA, HX, HB⟩
    isplitr [HX]
    · iexists { s with
        xb := rows (64 * (g % 2) + 16 * (t / 2)) (fun a b l => X (16 * (t / 2) + (a - (64 * (g % 2) + 16 * (t / 2)))) (16 * g + b) l) s.xb
        a1 := fun a l => qfold (fun r => X (16 * (t / 2) + r) (16 * g + a) l) 16 (s.a1 a l) }
      isplitr
      · ipureintro; exact hs.copy (by omega)
      isplitl [HB]
      · iexact HB
      isplitl [HA]
      · iexact HA
      iexact H
    iexact HX
  · by_cases hg : g < 8
    · have e : kc (t + 1) = kc t := by
        have : ¬ (t < 8 ∧ t % 2 = 0) := fun h' => h (hb.mpr ⟨h', hg⟩)
        unfold kc; split <;> split <;> omega
      rw [e]; exact hs
    · exact hs.free X hg

/-- Writing the means. -/
theorem wp_when4 {b : Prop} [Decidable b] (hb : b ↔ t = 6 ∧ g < 8) (o : Fin 2 → ℕ) (ho : b → ∀ a, o a + SCol.size a ≤ STwo.size a)
    (hO : b → o = ![16 * (g % 2), 0]) :
    (Hold c m (Known X g (kc (t + 1)) (kd t) True (7 ≤ t) (1 ≤ t) (8 ≤ t)) : sProp 𝕄) ⊢
      wp frame (wpE defs 𝒱 (c.tc : Thread nD τ) bd) E (dite b (fun h => meanPhase m.a1 m.ms o (ho h)) fun _ => pure ⟨⟩) fun _ =>
      Hold c m (Known X g (kc (t + 1)) (kd t) True (6 ≤ t) (1 ≤ t) (8 ≤ t)) := by
  refine wp_when 𝒱 c bd E (fun h => ?_) (fun h => Hold.mono c m fun s hs => hs.imp (fun _ => id) (fun hg _ => ?_) (fun _ => id) (fun _ => id))
  · obtain ⟨rfl, hg⟩ := hb.mp h
    rw [show kc (6 + 1) = 64 from rfl]
    unfold Hold
    iintro ⟨%s, %hs, HX, HA, HB, HM, H⟩
    ihave W := (wp_meanPhase 𝒱 c bd E m.a1 m.ms o (ho h) (16 * (g % 2)) (hO h) fullShare s.a1 s.ms) $$ [HA HM]
    · isplitl [HA]
      · iexact HA
      iexact HM
    iapply (wp_wand frame (wpE defs 𝒱 (c.tc : Thread nD τ) bd) E) $$ W
    iintro %_ ⟨HA, HM⟩
    iexists { s with ms := fun a b => if 16 * (g % 2) ≤ a ∧ a < 16 * (g % 2) + 16 then avg (s.a1 (a - 16 * (g % 2))) else s.ms a b }
    isplitr
    · ipureintro; exact hs.means.imp (fun _ => id) (fun _ _ => trivial) (fun _ => id) (fun _ => id)
    isplitl [HX]
    · iexact HX
    isplitl [HA]
    · iexact HA
    isplitl [HB]
    · iexact HB
    isplitl [HM]
    · iexact HM
    iexact H
  · have : ¬ (t = 6 ∧ g < 8) := fun h' => h (hb.mpr h')
    omega

/-- Centring rows of the group before. -/
theorem wp_when5 {b : Prop} [Decidable b] (hg9 : g < 9) (hb : b ↔ (t < 8 ∧ t % 2 = 1) ∧ 0 < g) (P : b → Place)
    (hP : ∀ h j r, (P h).off j r = ![64 * ((g + 1) % 2) + 16 * (t / 2) + r.val, 0, 1024 * j.val])
    (o : Fin 2 → ℕ) (ho : b → ∀ a, o a + SCol.size a ≤ STwo.size a) (hO : b → o = ![16 * ((g + 1) % 2), 0]) :
    (Hold c m (Known X g (kc (t + 1)) (kd t) True (6 ≤ t) (1 ≤ t) (8 ≤ t)) : sProp 𝕄) ⊢
      wp frame (wpE defs 𝒱 (c.tc : Thread nD τ) bd) E (dite b (fun h => centrePhase m.xb m.a2 m.ms (P h) o (ho h)) fun _ => pure ⟨⟩) fun _ =>
      Hold c m (Known X g (kc (t + 1)) (kd (t + 1)) True (6 ≤ t) (1 ≤ t) (8 ≤ t)) := by
  refine wp_when 𝒱 c bd E (fun h => ?_) (fun h => Hold.mono c m fun s hs => ?_)
  · obtain ⟨⟨ht, ht'⟩, hg⟩ := hb.mp h
    have e1 : kd t = 16 * (t / 2) := by unfold kd; rw [if_pos ht]
    have e2 : kd (t + 1) = 16 * (t / 2 + 1) := by unfold kd; split <;> omega
    rw [e1, e2]
    unfold Hold
    iintro ⟨%s, %hs, HX, HA, HB, HM, H⟩
    ihave W := (wp_centrePhase 𝒱 c bd E m.xb m.a2 m.ms (P h) o (ho h) (64 * ((g + 1) % 2) + 16 * (t / 2)) (16 * ((g + 1) % 2)) (hP h) (hO h)
      fullShare s.ms s.xb s.a2) $$ [HX HB HM]
    · isplitl [HM]
      · iexact HM
      isplitl [HB]
      · iexact HB
      iexact HX
    iapply (wp_wand frame (wpE defs 𝒱 (c.tc : Thread nD τ) bd) E) $$ W
    iintro %_ ⟨HM, HB, HX⟩
    iexists { s with
      xb := rows (64 * ((g + 1) % 2) + 16 * (t / 2)) (fun a b l => cen (s.xb a b l) (s.ms (16 * ((g + 1) % 2) + b) 0)) s.xb
      a2 := fun a l => qfold (fun r => sq1 (cen (s.xb (64 * ((g + 1) % 2) + 16 * (t / 2) + r) a l) (s.ms (16 * ((g + 1) % 2) + a) 0))) 16 (s.a2 a l) }
    isplitr
    · ipureintro
      exact ((hs.imp (fun _ => id) (fun _ => id) (fun _ _ => (by omega : 1 ≤ t)) (fun _ => id)).centre (by omega) hg hg9).imp
        (fun _ => id) (fun _ => id) (fun _ _ => trivial) (fun _ => id)
    isplitl [HX]
    · iexact HX
    isplitl [HA]
    · iexact HA
    isplitl [HB]
    · iexact HB
    isplitl [HM]
    · iexact HM
    iexact H
  · by_cases hg : 0 < g
    · have e : kd (t + 1) = kd t := by
        have : ¬ (t < 8 ∧ t % 2 = 1) := fun h' => h (hb.mpr ⟨h', hg⟩)
        unfold kd; split <;> split <;> omega
      rw [e]; exact hs
    · exact hs.free' X hg

/-- Writing the reciprocal deviations. -/
theorem wp_when6 {b : Prop} [Decidable b] (hb : b ↔ t = 7 ∧ 0 < g) :
    (Hold c m (Known X g (kc (t + 1)) (kd (t + 1)) True (6 ≤ t) (1 ≤ t) (8 ≤ t)) : sProp 𝕄) ⊢
      wp frame (wpE defs 𝒱 (c.tc : Thread nD τ) bd) E (dite b (fun _ => recipPhase m.a2 m.rs) fun _ => pure ⟨⟩) fun _ =>
      Hold c m (Known X g (kc (t + 1)) (kd (t + 1)) True (6 ≤ t) (1 ≤ t) (7 ≤ t)) := by
  refine wp_when 𝒱 c bd E (fun h => ?_) (fun h => Hold.mono c m fun s hs => hs.imp (fun _ => id) (fun _ => id) (fun _ => id) (fun hg _ => ?_))
  · obtain ⟨rfl, hg⟩ := hb.mp h
    rw [show kd (7 + 1) = 64 from rfl]
    unfold Hold
    iintro ⟨%s, %hs, HX, HA, HB, HM, HR⟩
    ihave W := (wp_recipPhase 𝒱 c bd E m.a2 m.rs fullShare s.a2 s.rs) $$ [HB HR]
    · isplitl [HB]
      · iexact HB
      iexact HR
    iapply (wp_wand frame (wpE defs 𝒱 (c.tc : Thread nD τ) bd) E) $$ W
    iintro %_ ⟨HB, HR⟩
    iexists { s with rs := fun a _ => rec1 (avg (s.a2 a)) }
    isplitr
    · ipureintro
      exact (hs.imp (fun _ => id) (fun _ => id) (fun _ _ => (by decide : 1 ≤ 7)) (fun _ => id)).recips.imp
        (fun _ => id) (fun _ => id) (fun _ _ => trivial) (fun _ _ => trivial)
    isplitl [HX]
    · iexact HX
    isplitl [HA]
    · iexact HA
    isplitl [HB]
    · iexact HB
    isplitl [HM]
    · iexact HM
    iexact HR
  · have : ¬ (t = 7 ∧ 0 < g) := fun h' => h (hb.mpr h')
    omega

/-- The window of the result at step `t` of group `g`. -/
def block (W B : ℕ → F .f32) (g t : ℕ) : SBlk.Idx → F .f32 := tab3 fun r a l => res X W B (16 * (t - 8) + r) (16 * (g - 1) + a) l

/-- Writing a window of the result. -/
theorem wp_when7 {W B : ℕ → F .f32} {b : Prop} [Decidable b] (hg9 : g < 9) (ht12 : t < 12) (hb : b ↔ 8 ≤ t ∧ 0 < g) (P : b → Place)
    (hP : ∀ h j r, (P h).off j r = ![64 * ((g + 1) % 2) + 16 * (t - 8) + r.val, 0, 1024 * j.val])
    (mw mb : Memref sig .tc .vmem SCol .f32) (out : Memref sig .tc .vmem SBlk .f32) (vw vb : SCol.Idx → F .f32) (vo : SBlk.Idx → F .f32)
    (hw : b → vw = tab2 fun a _ => W (16 * (g - 1) + a)) (hb' : b → vb = tab2 fun a _ => B (16 * (g - 1) + a)) :
    iprop(Hold c m (Known X g (kc (t + 1)) (kd (t + 1)) True (6 ≤ t) (1 ≤ t) (7 ≤ t)) ∗ owns (c.tc : Thread nD τ) mw fullShare vw ∗
        owns (c.tc : Thread nD τ) mb fullShare vb ∗ owns (c.tc : Thread nD τ) out fullShare vo) ⊢
      wp frame (wpE defs 𝒱 (c.tc : Thread nD τ) bd) E (dite b (fun h => scalePhase m.xb mw mb m.rs out (P h)) fun _ => pure ⟨⟩) fun _ =>
      (iprop(Hold c m (At X g (t + 1)) ∗ owns (c.tc : Thread nD τ) mw fullShare vw ∗
        owns (c.tc : Thread nD τ) mb fullShare vb ∗ owns (c.tc : Thread nD τ) out fullShare (if b then block X W B g t else vo)) : sProp 𝕄) := by
  have hk : ∀ s : St F, Known X g (kc (t + 1)) (kd (t + 1)) True (6 ≤ t) (1 ≤ t) (7 ≤ t) s → At X g (t + 1) s := fun s hs =>
    hs.imp (fun _ _ => trivial) (fun _ h => by omega) (fun _ h => by omega) (fun _ h => by omega)
  refine wp_when 𝒱 c bd E (fun h => ?_) (fun h => ?_)
  · obtain ⟨ht, hg⟩ := hb.mp h
    rw [hw h, hb' h, if_pos h]
    obtain ⟨vo, rfl⟩ : ∃ f, vo = tab3 f := ⟨un3 vo, (tab3_un3 vo).symm⟩
    unfold Hold
    iintro ⟨⟨%s, %hs, HX, HA, HB, HM, HR⟩, HW, HV, HO⟩
    ihave W := (wp_scalePhase 𝒱 c bd E m.xb mw mb m.rs out (P h) (64 * ((g + 1) % 2) + 16 * (t - 8)) (hP h) fullShare fullShare fullShare fullShare
      s.xb vo (fun a _ => W (16 * (g - 1) + a)) (fun a _ => B (16 * (g - 1) + a)) s.rs) $$ [HX HR HW HV HO]
    · isplitl [HR HW HV]
      · isplitl [HR]
        · iexact HR
        isplitl [HW]
        · iexact HW
        iexact HV
      isplitl [HX]
      · iexact HX
      iexact HO
    iapply (wp_wand frame (wpE defs 𝒱 (c.tc : Thread nD τ) bd) E) $$ W
    iintro %_ ⟨⟨HR, HW, HV⟩, HX, HO⟩
    isplitl [HX HA HB HM HR]
    · iexists s
      isplitr
      · ipureintro; exact hk s hs
      isplitl [HX]
      · iexact HX
      isplitl [HA]
      · iexact HA
      isplitl [HB]
      · iexact HB
      isplitl [HM]
      · iexact HM
      iexact HR
    isplitl [HW]
    · iexact HW
    isplitl [HV]
    · iexact HV
    have e : kd (t + 1) = 64 := by unfold kd; rw [if_neg (by omega)]
    have hs' : Known X g (kc (t + 1)) 64 True (6 ≤ t) (1 ≤ t) True s := by
      rw [← e]; exact hs.imp (fun _ => id) (fun _ => id) (fun _ => id) (fun _ _ => by omega)
    have ho : (tab3 fun r a l => out1 (s.xb (64 * ((g + 1) % 2) + 16 * (t - 8) + r) a l) (s.rs a 0) (W (16 * (g - 1) + a)) (B (16 * (g - 1) + a)) : SBlk.Idx → F .f32) =
        block X W B g t := tab3_congr fun r a l hr ha hl => hs'.scaled (by omega) hg hg9 r a l hr ha
    iapply (owns_congr c ho) $$ HO
  · rw [if_neg h]
    exact sep_mono_left (Hold.mono c m hk)

/-- The seven phases of a grid point in the order of the kernel. -/
theorem wp_point {W B : ℕ → F .f32} (hg9 : g < 9) (ht12 : t < 12)
    {b1 b2 b3 b4 b5 b6 b7 : Prop} [Decidable b1] [Decidable b2] [Decidable b3] [Decidable b4] [Decidable b5] [Decidable b6] [Decidable b7]
    (h1 : b1 ↔ t = 0 ∧ g < 8) (h2 : b2 ↔ t = 1 ∧ 0 < g) (h3 : b3 ↔ (t < 8 ∧ t % 2 = 0) ∧ g < 8) (h4 : b4 ↔ t = 6 ∧ g < 8)
    (h5 : b5 ↔ (t < 8 ∧ t % 2 = 1) ∧ 0 < g) (h6 : b6 ↔ t = 7 ∧ 0 < g) (h7 : b7 ↔ 8 ≤ t ∧ 0 < g)
    (P3 : b3 → Place) (hP3 : ∀ h j r, (P3 h).off j r = ![64 * (g % 2) + 16 * (t / 2) + r.val, 0, 1024 * j.val])
    (o4 : Fin 2 → ℕ) (ho4 : b4 → ∀ a, o4 a + SCol.size a ≤ STwo.size a) (hO4 : b4 → o4 = ![16 * (g % 2), 0])
    (P5 : b5 → Place) (hP5 : ∀ h j r, (P5 h).off j r = ![64 * ((g + 1) % 2) + 16 * (t / 2) + r.val, 0, 1024 * j.val])
    (o5 : Fin 2 → ℕ) (ho5 : b5 → ∀ a, o5 a + SCol.size a ≤ STwo.size a) (hO5 : b5 → o5 = ![16 * ((g + 1) % 2), 0])
    (P7 : b7 → Place) (hP7 : ∀ h j r, (P7 h).off j r = ![64 * ((g + 1) % 2) + 16 * (t - 8) + r.val, 0, 1024 * j.val])
    (x : Memref sig .tc .vmem SBlk .f32) (mw mb : Memref sig .tc .vmem SCol .f32) (out : Memref sig .tc .vmem SBlk .f32)
    (vx : SBlk.Idx → F .f32) (vw vb : SCol.Idx → F .f32) (vo : SBlk.Idx → F .f32)
    (hx : b3 → vx = tab3 fun r a l => X (16 * (t / 2) + r) (16 * g + a) l)
    (hw : b7 → vw = tab2 fun a _ => W (16 * (g - 1) + a)) (hb : b7 → vb = tab2 fun a _ => B (16 * (g - 1) + a)) :
    iprop(Hold c m (At X g t) ∗ owns (c.tc : Thread nD τ) x fullShare vx ∗ owns (c.tc : Thread nD τ) mw fullShare vw ∗
        owns (c.tc : Thread nD τ) mb fullShare vb ∗ owns (c.tc : Thread nD τ) out fullShare vo) ⊢
      wp frame (wpE defs 𝒱 (c.tc : Thread nD τ) bd) E
        ((dite b1 (fun _ => clear m.a1) fun _ => pure ⟨⟩) >>= fun _ =>
          (dite b2 (fun _ => clear m.a2) fun _ => pure ⟨⟩) >>= fun _ =>
          (dite b3 (fun h => copyPhase x m.xb m.a1 (P3 h)) fun _ => pure ⟨⟩) >>= fun _ =>
          (dite b4 (fun h => meanPhase m.a1 m.ms o4 (ho4 h)) fun _ => pure ⟨⟩) >>= fun _ =>
          (dite b5 (fun h => centrePhase m.xb m.a2 m.ms (P5 h) o5 (ho5 h)) fun _ => pure ⟨⟩) >>= fun _ =>
          (dite b6 (fun _ => recipPhase m.a2 m.rs) fun _ => pure ⟨⟩) >>= fun _ =>
          (dite b7 (fun h => scalePhase m.xb mw mb m.rs out (P7 h)) fun _ => pure ⟨⟩) >>= fun _ => pure PUnit.unit) fun _ =>
      (iprop(Hold c m (At X g (t + 1)) ∗ owns (c.tc : Thread nD τ) x fullShare vx ∗ owns (c.tc : Thread nD τ) mw fullShare vw ∗
        owns (c.tc : Thread nD τ) mb fullShare vb ∗ owns (c.tc : Thread nD τ) out fullShare (if b7 then block X W B g t else vo)) : sProp 𝕄) := by
  iintro ⟨HH, Hx, Hw, Hb, Ho⟩
  rw [wp_bind]
  ihave T := (wp_when1 𝒱 c bd E m X h1) $$ HH
  iapply (wp_wand frame (wpE defs 𝒱 (c.tc : Thread nD τ) bd) E) $$ T
  iintro %_ HH
  rw [wp_bind]
  ihave T := (wp_when2 𝒱 c bd E m X h2) $$ HH
  iapply (wp_wand frame (wpE defs 𝒱 (c.tc : Thread nD τ) bd) E) $$ T
  iintro %_ HH
  rw [wp_bind]
  ihave T := (wp_when3 𝒱 c bd E m X h3 P3 hP3 x vx hx) $$ [HH Hx]
  · isplitl [HH]
    · iexact HH
    iexact Hx
  iapply (wp_wand frame (wpE defs 𝒱 (c.tc : Thread nD τ) bd) E) $$ T
  iintro %_ ⟨HH, Hx⟩
  rw [wp_bind]
  ihave T := (wp_when4 𝒱 c bd E m X h4 o4 ho4 hO4) $$ HH
  iapply (wp_wand frame (wpE defs 𝒱 (c.tc : Thread nD τ) bd) E) $$ T
  iintro %_ HH
  rw [wp_bind]
  ihave T := (wp_when5 𝒱 c bd E m X hg9 h5 P5 hP5 o5 ho5 hO5) $$ HH
  iapply (wp_wand frame (wpE defs 𝒱 (c.tc : Thread nD τ) bd) E) $$ T
  iintro %_ HH
  rw [wp_bind]
  ihave T := (wp_when6 𝒱 c bd E m X h6) $$ HH
  iapply (wp_wand frame (wpE defs 𝒱 (c.tc : Thread nD τ) bd) E) $$ T
  iintro %_ HH
  rw [wp_bind]
  ihave T := (wp_when7 𝒱 c bd E m X hg9 ht12 h7 P7 hP7 mw mb out vw vb vo hw hb) $$ [HH Hw Hb Ho]
  · isplitl [HH]
    · iexact HH
    isplitl [Hw]
    · iexact Hw
    isplitl [Hb]
    · iexact Hb
    iexact Ho
  iapply (wp_wand frame (wpE defs 𝒱 (c.tc : Thread nD τ) bd) E) $$ T
  iintro %_ ⟨HH, Hw, Hb, Ho⟩
  iapply (le_wp_ret frame (wpE defs 𝒱 (c.tc : Thread nD τ) bd) E _ _)
  beta_reduce
  isplitl [HH]
  · iexact HH
  isplitl [Hx]
  · iexact Hx
  isplitl [Hw]
  · iexact Hw
  isplitl [Hb]
  · iexact Hb
  iexact Ho

end Cert.Bn
-- ==== Proof.KernelIdealRun.lean ====
/-
  The kernel's run: at every point of the grid the body takes the buffers from what they hold before
  the point to what they hold after it, so the program ends with the result `res` of its arguments.
-/
module

public import proofs.«01_k».proof.Proof.KernelIdealSchedule
public import proofs.«01_k».proof.Proof.Point

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.Bn Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The input, the weight and the bias as the grid finds them, by image, channel and lane. -/
def Xin : ℕ → ℕ → ℕ → F .f32 := un3 (a := 64) (b := 128) (c := 4096) (V m c main_v0)
/-- The weight by channel. -/
def Win (a : ℕ) : F .f32 := un2 (a := 128) (b := 1) (V m c main_v1) a 0
/-- The bias by channel. -/
def Bin (a : ℕ) : F .f32 := un2 (a := 128) (b := 1) (V m c main_v2) a 0

/-- The window of the input, where it is copied. -/
theorem iblk0 (t : Fin cfg0.N) (h : k0_cond3 (grid0.coords t) = 1#1) :
    (iblk m c 0 t : SBlk.Idx → F .f32) = tab3 fun r a l => Xin m c (16 * (t.val % 12 / 2) + r) (16 * (t.val / 12) + a) l := by
  funext z
  refine (congrFun (tab3_un3 (a := 64) (b := 128) (c := 4096) (V m c main_v0)).symm ((win0_0.blk t).view.emb z)).trans ?_
  have e : ∀ a, (((win0_0.blk t).view.emb z) a).val = win0_0.index t a * win0_0.size a + (z a).val := fun a =>
    Pipeline.Window.rect_emb_val win0_0 t z a
  have e0 := e 0
  have e1 := e 1
  have e2 := e 2
  rw [index0 t h] at e0 e1 e2
  show un3 (V m c main_v0) _ _ _ = un3 (V m c main_v0) _ _ _
  have e0' : (((win0_0.blk t).view.emb z) 0).val = 16 * (t.val % 12 / 2) + (z 0).val := e0.trans (by show _ * 16 + _ = _; dsimp only [Matrix.cons_val_zero]; omega)
  have e1' : (((win0_0.blk t).view.emb z) 1).val = 16 * (t.val / 12) + (z 1).val := e1.trans (by show _ * 16 + _ = _; dsimp only [Matrix.cons_val_one, Matrix.cons_val_zero]; omega)
  have e2' : (((win0_0.blk t).view.emb z) 2).val = (z 2).val := e2.trans (by show 0 * 4096 + _ = _; omega)
  exact congr (congr (congrArg _ e0') e1') e2'

/-- The window of the weight, where it is used. -/
theorem iblk1 (t : Fin cfg0.N) (h : k0_cond7 (grid0.coords t) = 1#1) :
    (iblk m c 1 t : SCol.Idx → F .f32) = tab2 fun a _ => Win m c (16 * (t.val / 12 - 1) + a) := by
  funext z
  refine (congrFun (tab2_un2 (a := 128) (b := 1) (V m c main_v1)).symm ((win0_1.blk t).view.emb z)).trans ?_
  have e : ∀ a, (((win0_1.blk t).view.emb z) a).val = win0_1.index t a * win0_1.size a + (z a).val := fun a =>
    Pipeline.Window.rect_emb_val win0_1 t z a
  have e0 := e 0
  rw [index1 t h] at e0
  show un2 (V m c main_v1) _ _ = un2 (V m c main_v1) _ _
  have e0' : (((win0_1.blk t).view.emb z) 0).val = 16 * (t.val / 12 - 1) + (z 0).val := e0.trans (by show _ * 16 + _ = _; dsimp only [Matrix.cons_val_zero]; omega)
  exact congr (congrArg _ e0') (Nat.lt_one_iff.mp (((win0_1.blk t).view.emb z) 1).isLt)

/-- The window of the bias, where it is used. -/
theorem iblk2 (t : Fin cfg0.N) (h : k0_cond7 (grid0.coords t) = 1#1) :
    (iblk m c 2 t : SCol.Idx → F .f32) = tab2 fun a _ => Bin m c (16 * (t.val / 12 - 1) + a) := by
  funext z
  refine (congrFun (tab2_un2 (a := 128) (b := 1) (V m c main_v2)).symm ((win0_2.blk t).view.emb z)).trans ?_
  have e : ∀ a, (((win0_2.blk t).view.emb z) a).val = win0_2.index t a * win0_2.size a + (z a).val := fun a =>
    Pipeline.Window.rect_emb_val win0_2 t z a
  have e0 := e 0
  rw [index2 t h] at e0
  show un2 (V m c main_v2) _ _ = un2 (V m c main_v2) _ _
  have e0' : (((win0_2.blk t).view.emb z) 0).val = 16 * (t.val / 12 - 1) + (z 0).val := e0.trans (by show _ * 16 + _ = _; dsimp only [Matrix.cons_val_zero]; omega)
  exact congr (congrArg _ e0') (Nat.lt_one_iff.mp (((win0_2.blk t).view.emb z) 1).isLt)

/-- The buffers that live through the grid. -/
abbrev held : Bufs sig where
  xb := Memref.whole cc0_scratch0
  a1 := Memref.whole cc0_scratch1
  a2 := Memref.whole cc0_scratch2
  ms := Memref.whole cc0_scratch3
  rs := Memref.whole cc0_scratch4

/-- What is held before point `n`: the buffers at what they hold before step `n % 12` of group `n / 12`, and the generator. -/
def Inv (n : ℕ) : sProp 𝕄 := iprop(Hold c held (At (Xin m c) (n / 12) (n % 12)) ∗ ∃ r, prngReg c r)

/-- The grid's proof data: the inputs' windows are left as found, and the result's holds a block of `res` where it is written. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block (Xin m c) (Win m c) (Bin m c) (t.val / 12) (t.val % 12)
  Φ t := Inv m c t.val
  q _ := fullShare
  owed _ := 0

/-- The body finds the input's block in its window. -/
theorem before0 (t : Fin cfg0.N) (d) : (dats m 0 c).before 0 t d = iblk m c 0 t :=
  before0_0_of m (dats m 0 c) rfl (fun t => by dsimp only [dats]) t d
/-- The body finds the weight's block in its window. -/
theorem before1 (t : Fin cfg0.N) (d) : (dats m 0 c).before 1 t d = iblk m c 1 t :=
  before0_1_of m (dats m 0 c) rfl (fun t => by dsimp only [dats]) t d
/-- The body finds the bias's block in its window. -/
theorem before2 (t : Fin cfg0.N) (d) : (dats m 0 c).before 2 t d = iblk m c 2 t :=
  before0_2_of m (dats m 0 c) rfl (fun t => by dsimp only [dats]) t d
/-- The input's window is left as found. -/
theorem after0 (t : Fin cfg0.N) : (dats m 0 c).after 0 t = iblk m c 0 t := by dsimp only [dats]
/-- The weight's window is left as found. -/
theorem after1 (t : Fin cfg0.N) : (dats m 0 c).after 1 t = iblk m c 1 t := by dsimp only [dats]
/-- The bias's window is left as found. -/
theorem after2 (t : Fin cfg0.N) : (dats m 0 c).after 2 t = iblk m c 2 t := by dsimp only [dats]
/-- The result's window holds the result's block for the point. -/
theorem after3 (t : Fin cfg0.N) : (dats m 0 c).after 3 t = block (Xin m c) (Win m c) (Bin m c) (t.val / 12) (t.val % 12) := by dsimp only [dats]

/-- What holds after a step holds before the next point. -/
theorem at_succ {X : ℕ → ℕ → ℕ → F .f32} (n : ℕ) (s : St F) (h : At X (n / 12) (n % 12 + 1) s) : At X ((n + 1) / 12) ((n + 1) % 12) s := by
  by_cases hn : n % 12 = 11
  · rw [show (n + 1) / 12 = n / 12 + 1 by omega, show (n + 1) % 12 = 0 by omega]
    exact at_next (by rw [hn] at h; exact h)
  · rw [show (n + 1) / 12 = n / 12 by omega, show (n + 1) % 12 = n % 12 + 1 by omega]
    exact h

/-- The body at a point. -/
theorem body_run (t : Fin cfg0.N) (vo : SBlk.Idx → F .f32) :
    iprop(Hold c held (At (Xin m c) (t.val / 12) (t.val % 12)) ∗ owns (c.tc : Thread nD τ) (st0_0 t) fullShare (iblk m c 0 t) ∗
        owns (c.tc : Thread nD τ) (st0_1 t) fullShare (iblk m c 1 t) ∗ owns (c.tc : Thread nD τ) (st0_2 t) fullShare (iblk m c 2 t) ∗
        owns (c.tc : Thread nD τ) (st0_3 t) fullShare vo) ⊢
      wp frame (wpE (defs₀ (F := F)) Variants.none (c.tc : Thread nD τ) none) Set.univ (bodyAt0 t) fun _ =>
      (iprop(Hold c held (At (Xin m c) (t.val / 12) (t.val % 12 + 1)) ∗ owns (c.tc : Thread nD τ) (st0_0 t) fullShare (iblk m c 0 t) ∗
        owns (c.tc : Thread nD τ) (st0_1 t) fullShare (iblk m c 1 t) ∗ owns (c.tc : Thread nD τ) (st0_2 t) fullShare (iblk m c 2 t) ∗
        owns (c.tc : Thread nD τ) (st0_3 t) fullShare (if k0_cond7 (grid0.coords t) = 1#1 then
          block (Xin m c) (Win m c) (Bin m c) (t.val / 12) (t.val % 12) else vo)) : sProp 𝕄) := by
  rw [bodyAt0, body_eq]
  exact wp_point Variants.none c none Set.univ held (Xin m c) (group_lt t) (step_lt t) (when1 t) (when2 t) (when3 t) (when4 t) (when5 t) (when6 t) (when7 t)
    (copyPlace (grid0.coords t)) (copy_off t) (k0_off5 (grid0.coords t)) (Facts₀.k0_off5_inb (grid0.coords t)) (mean_off t)
    (centrePlace (grid0.coords t)) (centre_off t) (k0_off6 (grid0.coords t)) (Facts₀.k0_off6_inb (grid0.coords t)) (mean_off' t)
    (scalePlace (grid0.coords t)) (scale_off t) (st0_0 t) (st0_1 t) (st0_2 t) (st0_3 t) _ _ _ vo (iblk0 m c t) (iblk1 m c t) (iblk2 m c t)

/-- The body table's entry is the kernel's body on the point's windows. -/
theorem defs_body (t : Fin cfg0.N) : (defs₀ (F := F)) .tc cfg0.body (cfg0.bodyArgs t (cfg0.slots t)) = bodyAt0 t := rfl

/-- The body keeps the invariant and leaves the windows as the proof data say. -/
theorem obligation : BodyObligationLoose (dats (F := F) m 0 c) (defs₀ (F := F)) Variants.none () Set.univ := fun t => by
  rw [bigSep_W0, bigSep_W0]
  dsimp only
  simp only [before0, before1, before2, after0, after1, after2, after3]
  rw [show (dats m 0 c).Φ t.castSucc = Inv m c t.val from rfl, show (dats m 0 c).Φ t.succ = Inv m c (t.val + 1) from rfl]
  rw [defs_body]
  unfold Inv
  iintro ⟨⟨HH, HP⟩, HO, ⟨%d0, H0⟩, ⟨%d1, H1⟩, ⟨%d2, H2⟩, ⟨%d3, H3⟩⟩
  ihave T := (body_run m c t ((dats m 0 c).before 3 t d3)) $$ [HH H0 H1 H2 H3]
  · isplitl [HH]
    · iexact HH
    isplitl [H0]
    · iexact H0
    isplitl [H1]
    · iexact H1
    isplitl [H2]
    · iexact H2
    iexact H3
  iapply (wp_wand frame (wpE (defs₀ (F := F)) Variants.none (c.tc : Thread nD τ) none) Set.univ) $$ T
  iintro %_ ⟨HH, H0, H1, H2, H3⟩
  isplitl [HH HP]
  · isplitl [HH]
    · iapply (Hold.mono c held (at_succ t.val)) $$ HH
    iexact HP
  isplitl [HO]
  · iexact HO
  isplitl [H0]
  · iexact H0
  isplitl [H1]
  · iexact H1
  isplitl [H2]
  · iexact H2
  by_cases h : k0_cond7 (grid0.coords t) = 1#1
  · rw [if_pos h]
    have hi : idle0 3 (grid0.coords t) = false := by show (!(k0_cond7 (grid0.coords t) == 1#1)) = false; rw [h]; rfl
    simp only [hi]
    iexact H3
  · rw [if_neg h]
    have hb : (k0_cond7 (grid0.coords t) == 1#1) = false := beq_false_of_ne h
    have hi : idle0 3 (grid0.coords t) = true := by show (!(k0_cond7 (grid0.coords t) == 1#1)) = true; rw [hb]; rfl
    simp only [hi, show (win0 3).flush t = false from (flush3 t).trans hb]
    iexists d3
    iexact H3

/-- The result array when every block has been written back. -/
theorem result : (dats m 0 c).arrAt 3 cfg0.N = (tab3 (res (Xin m c) (Win m c) (Bin m c)) : S64x128x4096.Idx → F .f32) := by
  refine (dats m 0 c).arrAt_eq_of_covers 3 _ covers3 fun t hf y => ?_
  have h : k0_cond7 (grid0.coords t) = 1#1 := by
    have := (flush3 t).symm.trans hf
    exact eq_of_beq this
  have e : ∀ a, (((win0_3.blk t).view.emb y) a).val = win0_3.index t a * win0_3.size a + (y a).val := fun a =>
    Pipeline.Window.rect_emb_val win0_3 t y a
  have e0 := e 0
  have e1 := e 1
  have e2 := e 2
  rw [index3 t h] at e0 e1 e2
  have e0' : (((win0_3.blk t).view.emb y) 0).val = 16 * (t.val % 12 - 8) + (y 0).val := e0.trans (by show _ * 16 + _ = _; dsimp only [Matrix.cons_val_zero]; omega)
  have e1' : (((win0_3.blk t).view.emb y) 1).val = 16 * (t.val / 12 - 1) + (y 1).val := e1.trans (by show _ * 16 + _ = _; dsimp only [Matrix.cons_val_one, Matrix.cons_val_zero]; omega)
  have e2' : (((win0_3.blk t).view.emb y) 2).val = (y 2).val := e2.trans (by show 0 * 4096 + _ = _; omega)
  rw [after3]
  exact (congr (congr (congrArg (res (Xin m c) (Win m c) (Bin m c)) e0') e1') e2').symm

/-- Before the first point the buffers hold anything. -/
theorem inv_start : (Pipeline.ΦA spec0 c : sProp 𝕄) ⊢ (dats m 0 c).Φ 0 := by
  rw [show (dats m 0 c).Φ 0 = Inv m c 0 from rfl]
  unfold Pipeline.ΦA Inv Hold
  rw [scopedRest0_eq]
  iintro ⟨⟨⟨%f0, H0⟩, ⟨%f1, H1⟩, ⟨%f2, H2⟩, ⟨%f3, H3⟩, ⟨%f4, H4⟩⟩, HP⟩
  isplitr [HP]
  · iexists (⟨un3 (a := 128) (b := 16) (c := 4096) f0, un2 (a := 16) (b := 4096) f1, un2 (a := 16) (b := 4096) f2,
      un2 (a := 32) (b := 1) f3, un2 (a := 16) (b := 1) f4⟩ : St F)
    isplitr
    · ipureintro; exact at_start _
    dsimp only
    rw [tab3_un3 (a := 128) (b := 16) (c := 4096) f0, tab2_un2 (a := 16) (b := 4096) f1, tab2_un2 (a := 16) (b := 4096) f2,
      tab2_un2 (a := 32) (b := 1) f3, tab2_un2 (a := 16) (b := 1) f4]
    isplitl [H0]
    · iapply (Entails.of_eq (owns_whole (c.tc : Thread nD τ) cc0_scratch0 fullShare f0).symm) $$ H0
    isplitl [H1]
    · iapply (Entails.of_eq (owns_whole (c.tc : Thread nD τ) cc0_scratch1 fullShare f1).symm) $$ H1
    isplitl [H2]
    · iapply (Entails.of_eq (owns_whole (c.tc : Thread nD τ) cc0_scratch2 fullShare f2).symm) $$ H2
    isplitl [H3]
    · iapply (Entails.of_eq (owns_whole (c.tc : Thread nD τ) cc0_scratch3 fullShare f3).symm) $$ H3
    iapply (Entails.of_eq (owns_whole (c.tc : Thread nD τ) cc0_scratch4 fullShare f4).symm) $$ H4
  iexact HP

/-- A whole buffer held at some contents. -/
theorem owns_any (b : Ref sig .tc) (f : b.ty.Contents (Elt F)) :
    (owns (c.tc : Thread nD τ) (Memref.whole b) fullShare f : sProp 𝕄) ⊢ iprop(∃ f : Buf (Elt F) ((c : Thread nD τ).loc b), ((c : Thread nD τ).loc b) ↦{fullShare} f) := by
  rw [owns_whole]
  iintro H
  iexists f
  iexact H

/-- After the last point the buffers are given back. -/
theorem inv_end : (dats m 0 c).Φ (Fin.last cfg0.N) ⊢ (Pipeline.ΦA spec0 c : sProp 𝕄) := by
  rw [show (dats m 0 c).Φ (Fin.last cfg0.N) = Inv m c cfg0.N from rfl]
  unfold Pipeline.ΦA Inv Hold
  rw [scopedRest0_eq]
  iintro ⟨⟨%s, -, H0, H1, H2, H3, H4⟩, HP⟩
  isplitr [HP]
  · isplitl [H0]
    · iapply (owns_any c cc0_scratch0 _) $$ H0
    isplitl [H1]
    · iapply (owns_any c cc0_scratch1 _) $$ H1
    isplitl [H2]
    · iapply (owns_any c cc0_scratch2 _) $$ H2
    isplitl [H3]
    · iapply (owns_any c cc0_scratch3 _) $$ H3
    iapply (owns_any c cc0_scratch4 _) $$ H4
  iexact HP

/-- The program's result, as the reshape after the grid leaves it. -/
theorem final : Pipeline.afterTail₀ cfgs (dats m) 0 (V0 m) [hostOps1] c main_v4 =
    shapeCast S64x128x64x64 (tab3 (res (Xin m c) (Win m c) (Bin m c)) : S64x128x4096.Idx → F .f32) Facts₀.shapeCasts_S64x128x4096_S64x128x64x64 := by
  have e : Pipeline.withArrays spec0 c (V0 m c) (fun w => (dats m 0 c).arrAt w cfg0.N) (Proc.devRef .tc main_v3) =
      (tab3 (res (Xin m c) (Win m c) (Bin m c)) : S64x128x4096.Idx → F .f32) :=
    (Pipeline.withArrays_arr spec0 launch0.win.arr_inj c (V0 m c) (fun w => (dats m 0 c).arrAt w cfg0.N) 3).trans (result m c)
  unfold Pipeline.afterTail₀
  rw [List.flatten_cons, List.flatten_nil, List.append_nil, StableHlo.after_cons, StableHlo.after_nil]
  refine (StableHlo.reshape_result main_v3 main_v4 rfl _ _ _ _).trans ?_
  rw [e]
  rfl

/-- The kernel runs, its arguments are unchanged, its result is `res` of them and every counter ends at zero. -/
theorem run : θ_run (defs (F := F)) (onTc (τ := τ) (main (F := F))) ⟨m, fun _ => 0, ρ⟩ (fun r =>
    (∀ c : Dev nD, r.2.mem ((c.tc : Thread nD τ).loc main_v4) =
        shapeCast S64x128x64x64 (tab3 (res (Xin m c) (Win m c) (Bin m c)) : S64x128x4096.Idx → F .f32) Facts₀.shapeCasts_S64x128x4096_S64x128x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  Pipeline.θ_run_frame_around_track cfgs (dats m) 0 launch0 defs₀ Variants.none m ρ main (obligation m)
    (fun c w => by fin_cases w <;> rfl) (fun _ _ => rfl) (V0 m) [hostOps1] sfx_sub sfx_fresh sfx_keeps (hmain m Variants.none)
    (fun _ _ => rfl) (inv_start m) (inv_end m) _ fun r h =>
      ⟨fun c => ⟨((h.1 c).2 main_v4 (Pipeline.mem_restRefs_of main_v4 (by decide) (by decide))).trans (final m c),
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c),
        ((h.1 c).2 main_arg2 (Pipeline.mem_restRefs_of main_arg2 (by decide) (by decide))).trans (W_main_arg2 m (dats m) c)⟩, h.2⟩

/-- The kernel runs, its arguments are unchanged and every counter ends at zero. -/
theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run (defs (F := F)) _ _).mono (fun _ h => ⟨fun c => (h.1 c).2, h.2⟩) (run m ρ)

end Cert.KernelIdeal.Hand
-- ==== Proof.KernelRun.lean ====
/-
  The kernel's run, from the idealised kernel's.

  The two printed kernels are one program: they have the same buffers, the same body and the same grid, over any
  floating-point type.  So what is proved of the one holds of the other, and only the table of bodies has to be
  compared.
-/
module

public import proofs.«01_k».proof.Proof.KernelIdealRun
public import proofs.«01_k».proof.Proof.Gen.Kernel

@[expose] public section

set_option maxRecDepth 65536

noncomputable section

namespace Cert.Kernel.Hand

open Idealize.ShloMosaic Idealize.SL Idealize.SL.Sem

variable {F : FTy → Type} [FloatOps F]
variable (m : (ℓ : Loc nD τ sig) → Buf (Elt F) ℓ) (ρ : Dev nD → PrngReg)

/-- The two printed kernels have one table of bodies. -/
theorem defs_same :
    @Cert.Kernel.defs F _ Cert.Kernel.Gen.facts = @Cert.KernelIdeal.defs F _ Cert.KernelIdeal.Gen.facts := by
  chain_rfl

/-- The kernel runs to its end, its arguments are unchanged and every counter ends at zero. -/
theorem frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  rw [defs_same]
  exact Cert.KernelIdeal.Hand.frame m ρ

end Cert.Kernel.Hand
-- ==== Proof.Stages.lean ====
/-
  The run of a host program that is stretches of operations with counted loops between them.

  A stage is some stretches, then one counted loop.  The program is a list of stages and the stretches after the
  last loop.  Every buffer ends at what the operations, taken in order and each loop's as often as it goes round,
  leave in it.
-/
module

public import Idealize.ShloMosaic.Lib.StableHlo.RunLoop
public import Idealize.ShloMosaic.Lib.Quiescent

@[expose] public section

noncomputable section

namespace Cert.Host

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- The programs of a host with no kernel and `nL` loops. -/
abbrev HProg (nL : Nat) (α : Type) : Type 1 :=
  Prog (TpuEff nD τ sig (Elt F) (HostLoop.Sig (Pipeline.Sig Λ₀ (Fin 0) fun p => (pcs p).Adm) nL) .tc) α

/-- No kernel: no table to admit, no ticket, no level. -/
abbrev adm0 : (p : Fin 0) → (pcs p).Adm := fun p => p.elim0
/-- No kernel call, so no ticket. -/
abbrev tk0 : Fin 0 → Ticket (Ix := Unit) (Name := ℕ) (U := Option PUnit) (Lvl := ℕ) (nD := nD) (τ := τ) pcs (adm0 pcs) := fun j => j.elim0
/-- No semaphore is waited on. -/
abbrev L0 : GSem nD τ sig → Finset Unit := fun _ => ∅
/-- Every semaphore's level is zero. -/
abbrev lv0 : GSem nD τ sig → Unit → ℕ := fun _ _ => 0

/-- With no kernel call, the cells are distinct. -/
theorem cells0 : Function.Injective (Pipeline.cellOf (nD := nD) (τ := τ) (Pipeline.pin pcs (adm0 pcs))) :=
  fun k => k.1.elim0

/-- What the core owes, carried beside the buffers. -/
abbrev Owed (c : Dev nD) : sProp 𝕄 := iprop(∃ W, owes (c : Thread nD τ) (0 : CellTallies nD τ sig Unit) W)

/-- One stage: stretches of operations, then a counted loop that goes round `n` times from any contents that
    satisfy `entry`, which the stretches establish. -/
structure Stage where
  /-- The stretches before the loop. -/
  pre : List (List (HloOp τ sig (Elt F)))
  plain : Plain pre
  /-- The loop, its condition and its body. -/
  l : Fin nL
  cond : HProg (nD := nD) (τ := τ) pcs nL (Elt F .i1)
  body : HProg (nD := nD) (τ := τ) pcs nL PUnit
  is_loop : loops l = HostLoop.step l cond body
  /-- Their operations. -/
  condOps : List (HloOp τ sig (Elt F))
  bodyOps : List (List (HloOp τ sig (Elt F)))
  bodyPlain : Plain bodyOps
  is_body : body = Pipeline.chain (bodyOps.map fun ops => (seq ops : HProg (nD := nD) (τ := τ) pcs nL PUnit))
  /-- How often the loop goes round, and from what. -/
  n : ℕ
  entry : Valuation τ sig (Elt F) → Prop
  entered : ∀ V, entry (afterL pre V)
  counted : ∀ W₀ : Dev nD → Valuation τ sig (Elt F), (∀ c, entry (W₀ c)) →
    LoopCond pcs defs₀ Variants.none loops (Ix := Unit) (Name := ℕ) (U := Option PUnit) (Lvl := ℕ) Owed cond condOps bodyOps W₀ n

variable {pcs defs₀ loops}

local notation "Stg" => Stage (nD := nD) (τ := τ) pcs defs₀ loops

namespace Stage

/-- The contents at a stage's loop, and after it. -/
def enter (s : Stg) (V : Dev nD → Valuation τ sig (Elt F)) (c : Dev nD) : Valuation τ sig (Elt F) := afterL s.pre (V c)
/-- What the arrays hold after a stage. -/
def exit (s : Stg) (V : Dev nD → Valuation τ sig (Elt F)) (c : Dev nD) : Valuation τ sig (Elt F) :=
  after s.condOps (atTrip s.condOps s.bodyOps (s.enter V) s.n c)

/-- A stage's program, item by item. -/
def items (s : Stg) : List (HProg (nD := nD) (τ := τ) pcs nL PUnit) :=
  (s.pre.map fun ops => seq ops) ++ [HostLoop.enter s.l]

/-- A stage as segments of a run: its stretches, then its loop. -/
def segs (s : Stg) (V : Dev nD → Valuation τ sig (Elt F)) :
    List (CSeg pcs (adm0 pcs) defs₀ Variants.none L0 lv0 loops (tk0 pcs)) :=
  segsOf _ _ _ _ _ _ _ _ Owed s.pre s.plain V
    ++ [loopSeg _ _ _ _ _ _ _ _ s.l s.cond s.body s.is_loop s.condOps s.bodyOps s.bodyPlain s.is_body s.n (s.enter V) Owed
      (s.counted _ fun c => s.entered (V c))]

/-- A stage's segments are its program. -/
theorem segs_prog (s : Stg) (V : Dev nD → Valuation τ sig (Elt F)) : (s.segs V).map CSeg.prog = s.items := by
  unfold segs items
  rw [List.map_append, segsOf_prog]
  rfl

/-- A stage's segments follow one another. -/
theorem segs_chains (s : Stg) (V : Dev nD → Valuation τ sig (Elt F)) :
    CSeg.Chains (fun c => iprop(held (c : Thread nD τ) (ucRefs τ sig) (V c) ∗ Owed c)) (s.segs V)
      (fun c => iprop(held (c : Thread nD τ) (ucRefs τ sig) (s.exit V c) ∗ Owed c)) :=
  CSeg.Chains.append (segsOf_chains _ _ _ _ _ _ _ _ Owed s.pre s.plain _) ⟨fun _ => .rfl, fun _ => .rfl⟩

end Stage

/-- The contents after a list of stages. -/
def runAll : List Stg → (Dev nD → Valuation τ sig (Elt F)) → Dev nD → Valuation τ sig (Elt F)
  | [], V => V
  | s :: r, V => runAll r (s.exit V)

/-- Their program. -/
def itemsAll : List Stg → List (HProg (nD := nD) (τ := τ) pcs nL PUnit)
  | [] => []
  | s :: r => s.items ++ itemsAll r

/-- Their segments. -/
def segsAll : List Stg → (Dev nD → Valuation τ sig (Elt F)) →
    List (CSeg pcs (adm0 pcs) defs₀ Variants.none L0 lv0 loops (tk0 pcs))
  | [], _ => []
  | s :: r, V => s.segs V ++ segsAll r (s.exit V)

/-- The segments of a list of stages are its program. -/
theorem segsAll_prog : ∀ (l : List Stg) (V : Dev nD → Valuation τ sig (Elt F)), (segsAll l V).map CSeg.prog = itemsAll l
  | [], _ => rfl
  | s :: r, V => by unfold segsAll itemsAll; rw [List.map_append, s.segs_prog, segsAll_prog r]

/-- The segments of a list of stages follow one another. -/
theorem segsAll_chains : ∀ (l : List Stg) (V : Dev nD → Valuation τ sig (Elt F)),
    CSeg.Chains (fun c => iprop(held (c : Thread nD τ) (ucRefs τ sig) (V c) ∗ Owed c)) (segsAll l V)
      (fun c => iprop(held (c : Thread nD τ) (ucRefs τ sig) (runAll l V c) ∗ Owed c))
  | [], _ => fun _ => .rfl
  | s :: r, V => CSeg.Chains.append (s.segs_chains V) (segsAll_chains r (s.exit V))

/-- The run of a program of stages and closing stretches: from any memory it ends, every tensor's buffer at the
    contents computed by the operations in order. -/
theorem run_stages [∀ e, Nonempty (Elt F e)] (stages : List Stg) (post : List (List (HloOp τ sig (Elt F)))) (hpost : Plain post)
    (main : Dev nD → HProg (nD := nD) (τ := τ) pcs nL PUnit)
    (hmain : ∀ c, main c = Pipeline.chain (itemsAll stages ++ post.map fun ops => seq ops))
    (m : (ℓ : Loc nD τ sig) → Buf (Elt F) ℓ) (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL post (runAll stages (launchContents m) c) (Proc.devRef .tc b)) := by
  have hprog : ((segsAll stages (launchContents m)
      ++ segsOf pcs (adm0 pcs) defs₀ Variants.none L0 lv0 loops (tk0 pcs) Owed post hpost (runAll stages (launchContents m))).map CSeg.prog)
      = itemsAll stages ++ post.map fun ops => seq ops := by
    rw [List.map_append, segsAll_prog, segsOf_prog]
  exact Pipeline.θ_run_regions_loop_kit (Ix := Unit) (Name := ℕ) (U := Option PUnit) (Lvl := ℕ) (J := Fin 0) (P := Fin 0) (Val := Elt F)
    pcs (adm0 pcs) (cells0 pcs) defs₀ Variants.none L0 lv0 loops (tk0 pcs) m ρ main
    (segsAll stages (launchContents m) ++ segsOf _ _ _ _ _ _ _ _ Owed post hpost (runAll stages (launchContents m)))
    (fun c Q => by
      rw [hmain c]
      show wp _ _ _ (Pipeline.chain ((segsAll stages (launchContents m)
        ++ segsOf _ _ _ _ _ _ _ _ Owed post hpost (runAll stages (launchContents m))).map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owed c))
    (Tₙ := fun c => iprop(held (c : Thread nD τ) (ucRefs τ sig) (afterL post (runAll stages (launchContents m) c))))
    (hch := CSeg.Chains.append (segsAll_chains stages _) (segsOf_chains _ _ _ _ _ _ _ _ Owed post hpost _))
    (hinit := by
      refine Pipeline.initEach L0 lv0 fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL post (runAll stages (launchContents m) c) b)
    (hfin := fun c s' => by
      unfold held
      iintro ⟨Hh, HSI⟩
      ihave Hr := (pointsTo_read_all (ucRefs τ sig) (fun b => ((c : Dev nD), b))
        (fun b => afterL post (runAll stages (launchContents m) c) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Host
-- ==== Proof.Trip.lean ====
/-
  One counted loop that sums the slices of an array along its first axis, each addition rounded.

  The loop's buffers are a record, so that one statement serves every such loop of a program.  A trip takes the
  slice at the counter, adds it to the accumulator, rounds, and counts up.
-/
module

public import proofs.«01_k».proof.Proof.Stages
public import proofs.«01_k».proof.Proof.Tables
public import Idealize.ShloMosaic.Lib.StableHlo.RunRead
public import Idealize.ShloMosaic.Lib.DynamicIndex
public import Idealize.ShloMosaic.Lib.Scf.Counter
public import Idealize.ShloMosaic.Lib.Scf.ExitTest
public import Idealize.ShloMosaic.Lib.HostLoop.Rules

@[expose] public section

set_option maxRecDepth 16384

noncomputable section

namespace Cert.Host

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs sub_ucRefs)
open Cert.Bn

variable {nD : Nat} {τ : Topo} {sig : RefSig}

/-- A single number's shape, and the shapes of the summed array, of one slice, and of the sum. -/
abbrev Num : Shape := ⟨0, ![]⟩
/-- The array that is summed, its summed axis first. -/
abbrev Src (a b c : ℕ) : Shape := ⟨4, ![64, a, b, c]⟩
/-- One slice of it, with that axis. -/
abbrev Row (a b c : ℕ) : Shape := ⟨4, ![1, a, b, c]⟩
/-- One slice of it, without that axis. -/
abbrev Acc (a b c : ℕ) : Shape := ⟨3, ![a, b, c]⟩

/-- The buffers of one summing loop. -/
structure Trip (sig : RefSig) (a b c : ℕ) where
  /-- The carried values: the summed array, the counter, the accumulator. -/
  src : TRef sig ⟨Src a b c, .f32⟩
  ctr : TRef sig ⟨Num, .i32⟩
  acc : TRef sig ⟨Acc a b c, .f32⟩
  /-- The slice's starts on the other axes, the slice, and the slice without its first axis. -/
  z0 : TRef sig ⟨Num, .i32⟩
  z1 : TRef sig ⟨Num, .i32⟩
  z2 : TRef sig ⟨Num, .i32⟩
  row : TRef sig ⟨Row a b c, .f32⟩
  out : TRef sig ⟨Acc a b c, .f32⟩
  /-- The new sum, narrowed, and widened again. -/
  sum : TRef sig ⟨Acc a b c, .f32⟩
  nar : TRef sig ⟨Acc a b c, .bf16⟩
  wid : TRef sig ⟨Acc a b c, .f32⟩
  /-- One, and the next counter. -/
  one : TRef sig ⟨Num, .i32⟩
  next : TRef sig ⟨Num, .i32⟩
  /-- The condition's bound and its answer. -/
  bound : TRef sig ⟨Num, .i32⟩
  test : TRef sig ⟨Num, .i1⟩

namespace Trip

variable {a b c : ℕ}

/-- The buffers a trip or the condition writes, then the one they only read. -/
def written (x : Trip sig a b c) : List (Ref sig .tc) :=
  [x.ctr.ref, x.acc.ref, x.z0.ref, x.z1.ref, x.z2.ref, x.row.ref, x.out.ref, x.sum.ref, x.nar.ref, x.wid.ref, x.one.ref, x.next.ref,
    x.bound.ref, x.test.ref]
/-- Every array of a scan. -/
def refs (x : Trip sig a b c) : List (Ref sig .tc) := x.src.ref :: x.written

variable {F : FTy → Type} [FloatOps F] (x : Trip sig a b c)
  (hs : (Src a b c).Slices (fun _ => 0) (Row a b c)) (hr : (Row a b c).ShapeCasts (Acc a b c))

/-- The condition's operations. -/
def condOps : List (HloOp τ sig (Elt F)) :=
  [ TRef.nullary x.bound (constantI Num 32 64#32),
    TRef.binary x.ctr x.bound x.test (cmpi .slt) ]

/-- A number has an entry. -/
theorem num_pos : 0 < Num.numel := by decide

/-- A trip's operations. -/
def bodyOps : List (HloOp τ sig (Elt F)) :=
  [ TRef.nullary x.z0 (constantI Num 32 0#32),
    TRef.nullary x.z1 (constantI Num 32 0#32),
    TRef.nullary x.z2 (constantI Num 32 0#32),
    TRef.unaryIndexed x.src ![x.ctr, x.z0, x.z1, x.z2] x.row
      (fun v i => Host.dynamicSlice (Row a b c) v (fun k => (i k (Shape.Idx.first num_pos)).toInt) hs),
    TRef.reshape x.row x.out (rfl : (.f32 : EltTy) = .f32) hr,
    TRef.binary x.acc x.out x.sum (addf : FVec F (Acc a b c) .f32 → _ → _),
    TRef.unary x.sum x.nar (truncf .bf16 · bits_lt),
    TRef.unary x.nar x.wid (extf .f32 · bits_lt),
    TRef.nullary x.one (constantI Num 32 1#32),
    TRef.binary x.ctr x.one x.next addi,
    TRef.unary x.next x.ctr id,
    TRef.unary x.wid x.acc id ]

/-- The condition's operations are plain. -/
theorem cond_plain : Plain [x.condOps (τ := τ) (F := F)] := by
  intro ops h
  cases h with
  | tail _ h => exact nomatch h
  | head =>
    refine ⟨List.forall_iff_forall_mem.mp ?_, List.forall_iff_forall_mem.mp ?_⟩
    · simp [condOps]
    · simp only [condOps, List.Forall]; exact ⟨rfl, rfl⟩

/-- The body's operations are plain. -/
theorem body_plain : Plain [x.bodyOps (τ := τ) (F := F) hs hr] := by
  intro ops h
  cases h with
  | tail _ h => exact nomatch h
  | head =>
    refine ⟨List.forall_iff_forall_mem.mp ?_, List.forall_iff_forall_mem.mp ?_⟩
    · simp [bodyOps]
    · simp only [bodyOps, List.Forall]; exact ⟨rfl, rfl, rfl, rfl, rfl, rfl, rfl, rfl, rfl, rfl, rfl, rfl⟩

/-- A buffer that is not written keeps its contents. -/
theorem cond_keep {r : Ref sig .tc} (h : r ∉ x.written) (V : Valuation τ sig (Elt F)) : after x.condOps V r = V r := by
  refine after_of_forall_not_mem _ V (List.forall_iff_forall_mem.mp ?_)
  simp only [written, List.mem_cons, List.not_mem_nil, or_false, not_or] at h
  simp only [condOps, List.Forall, nullary_writes, binary_writes, Finset.mem_singleton]
  exact ⟨devRef_ne_of_ne h.2.2.2.2.2.2.2.2.2.2.2.2.1, devRef_ne_of_ne h.2.2.2.2.2.2.2.2.2.2.2.2.2⟩

/-- The body keeps every array that it does not write. -/
theorem body_keep {r : Ref sig .tc} (h : r ∉ x.written) (V : Valuation τ sig (Elt F)) : after (x.bodyOps hs hr) V r = V r := by
  refine after_of_forall_not_mem _ V (List.forall_iff_forall_mem.mp ?_)
  simp only [written, List.mem_cons, List.not_mem_nil, or_false, not_or] at h
  obtain ⟨h1, h2, h3, h4, h5, h6, h7, h8, h9, h10, h11, h12, -, -⟩ := h
  simp only [bodyOps, List.Forall, nullary_writes, binary_writes, unary_writes, unaryIndexed_writes, reshape_writes, Finset.mem_singleton]
  exact ⟨devRef_ne_of_ne h3, devRef_ne_of_ne h4, devRef_ne_of_ne h5, devRef_ne_of_ne h6, devRef_ne_of_ne h7, devRef_ne_of_ne h8,
    devRef_ne_of_ne h9, devRef_ne_of_ne h10, devRef_ne_of_ne h11, devRef_ne_of_ne h12, devRef_ne_of_ne h1, devRef_ne_of_ne h2⟩

/-- What `TRef.reshape` writes, at the values' types. -/
theorem reshape_at {S T : BufTy} (u : TRef sig S) (v : TRef sig T) (he : S.elt = T.elt) (hn : S.shape.ShapeCasts T.shape)
    (V : Valuation τ sig (Elt F)) :
    v.ofBuf ((TRef.reshape u v he hn).result V v.ref) = fun i => he ▸ shapeCast T.shape (u.ofBuf (V u.ref)) hn i := by
  obtain ⟨u, rfl, _, _⟩ := u
  obtain ⟨v, rfl, _, _⟩ := v
  show (TRef.reshape _ _ _ _).result V v = _
  rw [reshape_result]
  rfl

section Values

variable (hd : x.refs.Nodup)

include hd in
/-- The condition leaves the carried values as they are. -/
theorem cond_ctr (V : Valuation τ sig (Elt F)) : after x.condOps V x.ctr.ref = V x.ctr.ref := by
  have h := hd
  simp only [refs, written, List.nodup_cons, List.mem_cons, List.not_mem_nil, or_false, not_or] at h
  refine after_of_forall_not_mem _ V (List.forall_iff_forall_mem.mp ?_)
  simp only [condOps, List.Forall, nullary_writes, binary_writes, Finset.mem_singleton]
  exact ⟨devRef_ne_of_ne (by simp only [ne_eq, h, not_false_eq_true]), devRef_ne_of_ne (by simp only [ne_eq, h, not_false_eq_true])⟩

include hd in
theorem cond_acc (V : Valuation τ sig (Elt F)) : after x.condOps V x.acc.ref = V x.acc.ref := by
  have h := hd
  simp only [refs, written, List.nodup_cons, List.mem_cons, List.not_mem_nil, or_false, not_or] at h
  refine after_of_forall_not_mem _ V (List.forall_iff_forall_mem.mp ?_)
  simp only [condOps, List.Forall, nullary_writes, binary_writes, Finset.mem_singleton]
  exact ⟨devRef_ne_of_ne (by simp only [ne_eq, h, not_false_eq_true]), devRef_ne_of_ne (by simp only [ne_eq, h, not_false_eq_true])⟩

include hd in
theorem src_free : x.src.ref ∉ x.written := (List.nodup_cons.mp hd).1

include hd in
/-- A trip counts up. -/
theorem body_ctr (V : Valuation τ sig (Elt F)) :
    x.ctr.ofBuf (after (x.bodyOps hs hr) V x.ctr.ref) = addi (x.ctr.ofBuf (V x.ctr.ref)) (constantI Num 32 1#32) := by
  have h := hd
  have h' := List.nodup_reverse.mpr hd
  simp only [refs, written, List.reverse_cons, List.reverse_nil, List.nil_append, List.cons_append, List.nodup_cons, List.mem_cons,
    List.not_mem_nil, or_false, not_or] at h h'
  simp (discharger := (simp only [ne_eq, h, h', not_false_eq_true])) only [bodyOps, after_cons, after_nil, nullary_result', nullary_result_ne', unary_result', unary_result_ne',
    binary_result', binary_result_ne', reshape_result_ne', unaryIndexed_result_ne', TRef.ofBuf_toBuf, id_eq]

/-- The slice of an array at a counter, without its first axis. -/
def slice (v : FVec F (Src a b c) .f32) (n : IVec Num 32) : FVec F (Acc a b c) .f32 :=
  shapeCast (Acc a b c) (Host.dynamicSlice (Row a b c) v
    (fun k => ((![n, constantI Num 32 0#32, constantI Num 32 0#32, constantI Num 32 0#32] : Fin 4 → IVec Num 32) k (Shape.Idx.first num_pos)).toInt) hs) hr

include hd in
/-- A trip adds the slice at the counter to the accumulator and rounds. -/
theorem body_acc (V : Valuation τ sig (Elt F)) :
    x.acc.ofBuf (after (x.bodyOps hs hr) V x.acc.ref) =
      quant (addf (x.acc.ofBuf (V x.acc.ref)) (slice hs hr (x.src.ofBuf (V x.src.ref)) (x.ctr.ofBuf (V x.ctr.ref)))) := by
  have h := hd
  have h' := List.nodup_reverse.mpr hd
  simp only [refs, written, List.reverse_cons, List.reverse_nil, List.nil_append, List.cons_append, List.nodup_cons, List.mem_cons,
    List.not_mem_nil, or_false, not_or] at h h'
  simp (discharger := (simp only [ne_eq, h, h', not_false_eq_true])) only [bodyOps, after_cons, after_nil, nullary_result', nullary_result_ne', unary_result', unary_result_ne',
    binary_result', binary_result_ne', reshape_result_ne', unaryIndexed_result_read, unaryIndexed_result_ne', indexContents_tref_cons, indexContents_tref_empty, TRef.ofBuf_toBuf, id_eq]
  rw [reshape_at]
  simp (discharger := (simp only [ne_eq, h, h', not_false_eq_true])) only [nullary_result', nullary_result_ne', unaryIndexed_result_read, unaryIndexed_result_ne',
    indexContents_tref_cons, indexContents_tref_empty, TRef.ofBuf_toBuf]
  rfl

end Values

/-- An index of a slice, at a place on the first axis. -/
def lead (k : ℕ) (i : (Acc a b c).Idx) : (Src a b c).Idx := fun d =>
  match d with
  | ⟨0, _⟩ => Fin.ofNat 64 k
  | ⟨1, _⟩ => i 0
  | ⟨2, _⟩ => i 1
  | ⟨3, _⟩ => i 2

/-- The slice at a counter below the extent is the array there. -/
theorem slice_at (v : FVec F (Src a b c) .f32) (k : ℕ) (hk : k < 64) (i : (Acc a b c).Idx) :
    slice hs hr v (fun _ => BitVec.ofNat 32 k) i = v (lead k i) := by
  have hoff : (Src a b c).Slices (![k, 0, 0, 0] : Fin 4 → ℕ) (Row a b c) := ⟨rfl, fun d => by
    match d with
    | ⟨0, _⟩ => show k + 1 ≤ 64; omega
    | ⟨1, _⟩ => show 0 + a ≤ a; omega
    | ⟨2, _⟩ => show 0 + b ≤ b; omega
    | ⟨3, _⟩ => show 0 + c ≤ c; omega⟩
  unfold slice
  rw [shapeCast_dropUnit_apply (![a, b, c] : Fin 3 → ℕ), Host.dynamicSlice_eq_extractStridedSlice (Row a b c) v _ (![k, 0, 0, 0] : Fin 4 → ℕ) hs hoff]
  · refine extractStridedSlice_apply _ _ _ _ (lead k i) fun d => ?_
    match d with
    | ⟨0, _⟩ => show k % 64 = k + 0; omega
    | ⟨1, _⟩ => show (i 0).val = 0 + (i 0).val; omega
    | ⟨2, _⟩ => show (i 1).val = 0 + (i 1).val; omega
    | ⟨3, _⟩ => show (i 2).val = 0 + (i 2).val; omega
  · intro d
    match d with
    | ⟨0, _⟩ =>
      show (BitVec.ofNat 32 k).toInt = (k : ℤ)
      rw [BitVec.toInt_eq_toNat_of_lt (by rw [BitVec.toNat_ofNat]; omega), BitVec.toNat_ofNat]; omega
    | ⟨1, _⟩ => rfl
    | ⟨2, _⟩ => rfl
    | ⟨3, _⟩ => rfl

section Loop

variable (hd : x.refs.Nodup) (W : Dev nD → Valuation τ sig (Elt F)) (d : Dev nD)

/-- A buffer the loop does not write keeps its contents through every trip. -/
theorem trip_keep {r : Ref sig .tc} (h : r ∉ x.written) (k : ℕ) : atTrip x.condOps [x.bodyOps hs hr] W k d r = W d r := by
  induction k with
  | zero => rfl
  | succ k ih => exact (x.body_keep hs hr h _).trans ((x.cond_keep h _).trans ih)

include hd in
/-- Before trip `k` the counter is `k`. -/
theorem trip_ctr (h0 : x.ctr.ofBuf (W d x.ctr.ref) = fun _ => 0#32) (k : ℕ) :
    x.ctr.ofBuf (atTrip x.condOps [x.bodyOps hs hr] W k d x.ctr.ref) = fun _ => BitVec.ofNat 32 k := by
  induction k with
  | zero => exact h0
  | succ k ih =>
    refine (x.body_ctr hs hr hd _).trans ?_
    rw [x.cond_ctr hd, ih]
    funext j
    show BitVec.ofNat 32 k + 1#32 = BitVec.ofNat 32 (k + 1)
    apply BitVec.eq_of_toNat_eq
    simp

include hd in
/-- Before trip `k` the accumulator holds the rounded sum of the first `k` slices. -/
theorem trip_acc (h0 : x.ctr.ofBuf (W d x.ctr.ref) = fun _ => 0#32) (k : ℕ) (hk : k ≤ 64) :
    x.acc.ofBuf (atTrip x.condOps [x.bodyOps hs hr] W k d x.acc.ref) =
      fun i => qfold (fun n => x.src.ofBuf (W d x.src.ref) (lead n i)) k (x.acc.ofBuf (W d x.acc.ref) i) := by
  induction k with
  | zero => rfl
  | succ k ih =>
    refine (x.body_acc hs hr hd _).trans ?_
    rw [x.cond_acc hd, x.cond_ctr hd, x.cond_keep (x.src_free hd), ih (by omega), x.trip_ctr hs hr hd W d h0, x.trip_keep hs hr W d (x.src_free hd)]
    funext i
    show q1 (FloatOps.addf _ (slice hs hr _ (fun _ => BitVec.ofNat 32 k) i)) = _
    rw [slice_at hs hr _ k (by omega)]
    rfl

/-- The counter's comparison. -/
theorem below (k : ℕ) (hk : k ≤ 64) : IntOp.cmpi .slt (BitVec.ofNat 32 k) 64#32 = 1#1 ↔ k < 64 :=
  (by decide : ∀ k : Fin 65, IntOp.cmpi .slt (BitVec.ofNat 32 k.val) 64#32 = 1#1 ↔ k.val < 64) ⟨k, by omega⟩

variable {Λ₀ : Labels} {nL : ℕ} (pcs : Fin 0 → PCfg sig Λ₀ (Elt F)) (defs₀ : Defs nD τ sig (Elt F) Λ₀)
  (loops : Fin nL → Prog (TpuEff nD τ sig (Elt F) (HostLoop.Sig (Pipeline.Sig Λ₀ (Fin 0) fun p => (pcs p).Adm) nL) .tc) PUnit)

/-- The condition: is the counter below the extent? -/
def cond : HProg (nD := nD) (τ := τ) pcs nL (Elt F .i1) := do
  hlo rfl (TRef.nullary x.bound (constantI Num 32 64#32)) (fun _ => .ret ⟨⟩)
  let y ← hlo rfl (TRef.binary x.ctr x.bound x.test (cmpi .slt)) (HostLoop.elt x.test.ref x.test.ty_eq)
  pure y

/-- The element read off a typed buffer. -/
theorem elt_at (t : TRef sig ⟨Num, .i1⟩) (v : t.ref.ty.Contents (Elt F)) :
    cast (congrArg (BufTy.Contents (Elt F)) t.ty_eq) v HostLoop.idx0 = t.ofBuf v HostLoop.idx0 := rfl

include hd in
/-- The condition's answer. -/
theorem test_at (V : Valuation τ sig (Elt F)) (k : ℕ) (hk : k ≤ 64) (h : x.ctr.ofBuf (V x.ctr.ref) = fun _ => BitVec.ofNat 32 k) :
    x.test.ofBuf (after x.condOps V x.test.ref) HostLoop.idx0 = 1#1 ↔ k < 64 := by
  have h1 := hd
  have h2 := List.nodup_reverse.mpr hd
  simp only [refs, written, List.reverse_cons, List.reverse_nil, List.nil_append, List.cons_append, List.nodup_cons, List.mem_cons,
    List.not_mem_nil, or_false, not_or] at h1 h2
  simp (discharger := (simp only [ne_eq, h1, h2, not_false_eq_true])) only [condOps, after_cons, after_nil, nullary_result', nullary_result_ne',
    binary_result', TRef.ofBuf_toBuf, h]
  exact below k hk

set_option backward.isDefEq.respectTransparency.types false in
include hd in
/-- The condition runs, and says whether another trip is due. -/
theorem counted (h0 : ∀ d, x.ctr.ofBuf (W d x.ctr.ref) = fun _ => 0#32) :
    LoopCond pcs defs₀ Variants.none loops (Ix := Unit) (Name := ℕ) (U := Option PUnit) (Lvl := ℕ) Owed (x.cond pcs) x.condOps [x.bodyOps hs hr] W 64 := by
  intro k hk c bd
  have hctr := x.trip_ctr hs hr hd W c (h0 c) k
  have ht := x.test_at hd _ k hk hctr
  unfold cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  rw [elt_at]
  rw [condOps, after_cons, after_cons, after_nil] at ht ⊢
  isplitr
  · ipureintro
    refine Iff.trans (iff_of_eq (congrArg (· = 1#1) ?_)) ht
    exact congrFun (congrArg x.test.ofBuf (HloOp.result_of_mem _ _ (Finset.mem_singleton_self _)).symm) HostLoop.idx0
  isplitl [Hb]; · iexact Hb
  isplitl [Hh]; · iexact Hh
  iexact HR

/-- A stage whose loop is a summing loop, entered with the counter at zero. -/
def stage (hd : x.refs.Nodup) (pre : List (List (HloOp τ sig (Elt F)))) (plain : Plain pre) (l : Fin nL)
    (body : HProg (nD := nD) (τ := τ) pcs nL PUnit) (is_loop : loops l = HostLoop.step l (x.cond pcs) body)
    (is_body : body = Pipeline.chain [(seq (x.bodyOps hs hr) : HProg (nD := nD) (τ := τ) pcs nL PUnit)])
    (zero : ∀ V, x.ctr.ofBuf (afterL pre V x.ctr.ref) = fun _ => 0#32) : Stage (nD := nD) (τ := τ) pcs defs₀ loops where
  pre := pre
  plain := plain
  l := l
  cond := x.cond pcs
  body := body
  is_loop := is_loop
  condOps := x.condOps
  bodyOps := [x.bodyOps hs hr]
  bodyPlain := x.body_plain hs hr
  is_body := is_body
  n := 64
  entry V := x.ctr.ofBuf (V x.ctr.ref) = fun _ => 0#32
  entered := zero
  counted W h := x.counted hs hr hd W pcs defs₀ loops h

variable {pcs defs₀ loops}
variable (hd : x.refs.Nodup) (pre : List (List (HloOp τ sig (Elt F)))) (plain : Plain pre) (l : Fin nL)
    (body : HProg (nD := nD) (τ := τ) pcs nL PUnit) (is_loop : loops l = HostLoop.step l (x.cond pcs) body)
    (is_body : body = Pipeline.chain [(seq (x.bodyOps hs hr) : HProg (nD := nD) (τ := τ) pcs nL PUnit)])
    (zero : ∀ V, x.ctr.ofBuf (afterL pre V x.ctr.ref) = fun _ => 0#32)

/-- After the stage a buffer the loop does not write holds what the stretches left in it. -/
theorem exit_keep {r : Ref sig .tc} (h : r ∉ x.written) :
    (x.stage hs hr pcs defs₀ loops hd pre plain l body is_loop is_body zero).exit W d r = afterL pre (W d) r :=
  (x.cond_keep h _).trans (x.trip_keep hs hr _ d h 64)

/-- After the stage the accumulator holds the rounded sum of all the slices. -/
theorem exit_acc :
    x.acc.ofBuf ((x.stage hs hr pcs defs₀ loops hd pre plain l body is_loop is_body zero).exit W d x.acc.ref) =
      fun i => qfold (fun n => x.src.ofBuf (afterL pre (W d) x.src.ref) (lead n i)) 64 (x.acc.ofBuf (afterL pre (W d) x.acc.ref) i) :=
  (congrArg x.acc.ofBuf (x.cond_acc hd _)).trans (x.trip_acc hs hr hd _ d (zero _) 64 le_rfl)

end Loop

end Trip

end Cert.Host
-- ==== Proof.Turn.lean ====
/-
  From one summing loop to the next: the sum so far is laid out with its next axis in front, and the loop's
  counter and accumulator are set to zero.

  The stretch's buffers are a record, so that one statement serves every such stretch of a program.
-/
module

public import proofs.«01_k».proof.Proof.Trip

@[expose] public section

set_option maxRecDepth 16384

noncomputable section

namespace Cert.Host

open Idealize.ShloMosaic Idealize.ShloMosaic.TcCoe Idealize.ShloMosaic.StableHlo
open Idealize.SL.Sem
open Idealize.ShloMosaic.Pipeline (PCfg)
open Cert.Bn

variable {nD : Nat} {τ : Topo} {sig : RefSig}

/-- The buffers of one such stretch. -/
structure Turn (sig : RefSig) (A B : Shape) (a b c : ℕ) where
  /-- The sum so far, with a new axis, and with its next axis in front. -/
  old : TRef sig ⟨A, .f32⟩
  mid : TRef sig ⟨B, .f32⟩
  new : TRef sig ⟨Src a b c, .f32⟩
  /-- A zero, an array of zeros, and the counter's zero. -/
  zero : TRef sig ⟨Num, .f32⟩
  zeros : TRef sig ⟨Acc a b c, .f32⟩
  start : TRef sig ⟨Num, .i32⟩
  /-- The loop's buffers. -/
  loop : Trip sig a b c

namespace Turn

variable {A B : Shape} {a b c : ℕ}

/-- The buffers the stretch writes. -/
def written (t : Turn sig A B a b c) : List (Ref sig .tc) :=
  [t.mid.ref, t.new.ref, t.zero.ref, t.zeros.ref, t.start.ref, t.loop.src.ref, t.loop.ctr.ref, t.loop.acc.ref]

/-- The buffers the stretch uses. -/
def refs (t : Turn sig A B a b c) : List (Ref sig .tc) := t.old.ref :: t.written

variable {F : FTy → Type} [FloatOps F] (t : Turn sig A B a b c)
  (f : FVec F A .f32 → FVec F B .f32) (g : FVec F B .f32 → FVec F (Src a b c) .f32) (hz : Num.BroadcastsInDim (Acc a b c) (![] : Fin 0 → Fin (Acc a b c).rank))

/-- The stretch's operations. -/
def ops : List (HloOp τ sig (Elt F)) :=
  [ TRef.unary t.old t.mid f,
    TRef.unary t.mid t.new g,
    TRef.nullary t.zero (constant Num .f32 0x00000000#32),
    TRef.unary t.zero t.zeros (broadcastInDim (Acc a b c) ![] hz : FVec F Num .f32 → FVec F (Acc a b c) .f32),
    TRef.nullary t.start (constantI Num 32 0#32),
    TRef.unary t.new t.loop.src id,
    TRef.unary t.start t.loop.ctr id,
    TRef.unary t.zeros t.loop.acc id ]

/-- The exchange's operations are plain. -/
theorem plain : Plain [t.ops (τ := τ) (F := F) f g hz] := by
  intro ops h
  cases h with
  | tail _ h => exact nomatch h
  | head =>
    refine ⟨List.forall_iff_forall_mem.mp ?_, List.forall_iff_forall_mem.mp ?_⟩
    · simp [Turn.ops]
    · simp only [Turn.ops, List.Forall]; exact ⟨rfl, rfl, rfl, rfl, rfl, rfl, rfl, rfl⟩

/-- A buffer that is not written keeps its contents. -/
theorem keep {r : Ref sig .tc} (h : r ∉ t.written) (V : Valuation τ sig (Elt F)) : after (t.ops f g hz) V r = V r := by
  refine after_of_forall_not_mem _ V (List.forall_iff_forall_mem.mp ?_)
  simp only [written, List.mem_cons, List.not_mem_nil, or_false, not_or] at h
  obtain ⟨h1, h2, h3, h4, h5, h6, h7, h8⟩ := h
  simp only [ops, List.Forall, nullary_writes, unary_writes, Finset.mem_singleton]
  exact ⟨devRef_ne_of_ne h1, devRef_ne_of_ne h2, devRef_ne_of_ne h3, devRef_ne_of_ne h4, devRef_ne_of_ne h5, devRef_ne_of_ne h6,
    devRef_ne_of_ne h7, devRef_ne_of_ne h8⟩

variable (hd : t.refs.Nodup)

include hd in
/-- The loop starts from the sum so far, laid out anew. -/
theorem src_at (V : Valuation τ sig (Elt F)) :
    t.loop.src.ofBuf (after (t.ops f g hz) V t.loop.src.ref) = g (f (t.old.ofBuf (V t.old.ref))) := by
  have h := hd
  have h' := List.nodup_reverse.mpr hd
  simp only [refs, written, List.reverse_cons, List.reverse_nil, List.nil_append, List.cons_append, List.nodup_cons, List.mem_cons,
    List.not_mem_nil, or_false, not_or] at h h'
  simp (discharger := (simp only [ne_eq, h, h', not_false_eq_true])) only [ops, after_cons, after_nil, nullary_result_ne', unary_result', unary_result_ne',
    TRef.ofBuf_toBuf, id_eq]

include hd in
/-- The counter starts at zero. -/
theorem ctr_at (V : Valuation τ sig (Elt F)) :
    t.loop.ctr.ofBuf (after (t.ops f g hz) V t.loop.ctr.ref) = fun _ => 0#32 := by
  have h := hd
  have h' := List.nodup_reverse.mpr hd
  simp only [refs, written, List.reverse_cons, List.reverse_nil, List.nil_append, List.cons_append, List.nodup_cons, List.mem_cons,
    List.not_mem_nil, or_false, not_or] at h h'
  simp (discharger := (simp only [ne_eq, h, h', not_false_eq_true])) only [ops, after_cons, after_nil, nullary_result', nullary_result_ne', unary_result', unary_result_ne',
    TRef.ofBuf_toBuf, id_eq]
  rfl

include hd in
/-- The accumulator starts at zero. -/
theorem acc_at (V : Valuation τ sig (Elt F)) :
    t.loop.acc.ofBuf (after (t.ops f g hz) V t.loop.acc.ref) = fun _ => zer := by
  have h := hd
  have h' := List.nodup_reverse.mpr hd
  simp only [refs, written, List.reverse_cons, List.reverse_nil, List.nil_append, List.cons_append, List.nodup_cons, List.mem_cons,
    List.not_mem_nil, or_false, not_or] at h h'
  simp (discharger := (simp only [ne_eq, h, h', not_false_eq_true])) only [ops, after_cons, after_nil, nullary_result', nullary_result_ne', unary_result', unary_result_ne',
    TRef.ofBuf_toBuf, id_eq]
  rfl

variable (hs : (Src a b c).Slices (fun _ => 0) (Row a b c)) (hr : (Row a b c).ShapeCasts (Acc a b c))
variable {Λ₀ : Labels} {nL : ℕ} (pcs : Fin 0 → PCfg sig Λ₀ (Elt F)) (defs₀ : Defs nD τ sig (Elt F) Λ₀)
  (loops : Fin nL → Prog (TpuEff nD τ sig (Elt F) (HostLoop.Sig (Pipeline.Sig Λ₀ (Fin 0) fun p => (pcs p).Adm) nL) .tc) PUnit)
  (hx : t.loop.refs.Nodup) (l : Fin nL) (body : HProg (nD := nD) (τ := τ) pcs nL PUnit)
  (is_loop : loops l = HostLoop.step l (t.loop.cond pcs) body)
  (is_body : body = Pipeline.chain [(seq (t.loop.bodyOps hs hr) : HProg (nD := nD) (τ := τ) pcs nL PUnit)])

/-- The stretch and its loop, as a stage. -/
def stage : Stage (nD := nD) (τ := τ) pcs defs₀ loops :=
  t.loop.stage hs hr pcs defs₀ loops hx [t.ops f g hz] (t.plain f g hz) l body is_loop is_body fun V => t.ctr_at f g hz hd V

variable {pcs defs₀ loops} (W : Dev nD → Valuation τ sig (Elt F)) (d : Dev nD)

/-- A buffer neither writes keeps its contents. -/
theorem exit_keep {r : Ref sig .tc} (h : r ∉ t.written) (h' : r ∉ t.loop.written) :
    (t.stage f g hz hd hs hr pcs defs₀ loops hx l body is_loop is_body).exit W d r = W d r :=
  (t.loop.exit_keep hs hr W d hx _ _ l body is_loop is_body _ h').trans (t.keep f g hz h (W d))

/-- The accumulator ends at the rounded sum, from zero, of the slices of the sum so far laid out anew. -/
theorem exit_acc :
    t.loop.acc.ofBuf ((t.stage f g hz hd hs hr pcs defs₀ loops hx l body is_loop is_body).exit W d t.loop.acc.ref) =
      fun i => qfold (fun n => g (f (t.old.ofBuf (W d t.old.ref))) (Trip.lead n i)) 64 zer := by
  refine (t.loop.exit_acc hs hr W d hx _ _ l body is_loop is_body _).trans ?_
  show (fun i => qfold (fun n => t.loop.src.ofBuf (after (t.ops f g hz) (W d) t.loop.src.ref) (Trip.lead n i)) 64
    (t.loop.acc.ofBuf (after (t.ops f g hz) (W d) t.loop.acc.ref) i)) = _
  rw [t.src_at f g hz hd, t.acc_at f g hz hd]

end Turn

end Cert.Host
-- ==== Proof.ReferenceOps.lean ====
/-
  The reference's run.

  The program is six stages, each some operations and a summing loop, and the operations after the last loop.
-/
module

public import proofs.«01_k».proof.Proof.Turn
public import proofs.«01_k».proof.Proof.Gen.ReferenceIdeal

@[expose] public section

set_option maxRecDepth 65536

noncomputable section

namespace Cert.ReferenceIdeal.Hand

open Idealize.ShloMosaic Idealize.ShloMosaic.TcCoe Idealize.ShloMosaic.StableHlo
open Idealize.SL.Sem
open Cert.Host Cert.Bn Facts₀

/-- The buffers of the six loops. -/
noncomputable def trip0 : Trip sig 128 64 64 where
  src := .of main_v1_0
  ctr := .of main_v1_1
  acc := .of main_v1_2
  z0 := .of main_while0b_call0_c
  z1 := .of main_while0b_call0_c_0
  z2 := .of main_while0b_call0_c_1
  row := .of main_while0b_call0_v0
  out := .of main_while0b_v55
  sum := .of main_while0b_v56
  nar := .of main_while0b_v57
  wid := .of main_while0b_v58
  one := .of main_while0b_c_15
  next := .of main_while0b_v59
  bound := .of main_while0c_c_15
  test := .of main_while0c_v55

/-- The scan over the rows, for the mean. -/
noncomputable def trip1 : Trip sig 1 128 64 where
  src := .of main_v5_0
  ctr := .of main_v5_1
  acc := .of main_v5_2
  z0 := .of main_while1b_call1_c
  z1 := .of main_while1b_call1_c_0
  z2 := .of main_while1b_call1_c_1
  row := .of main_while1b_call1_v0
  out := .of main_while1b_v55
  sum := .of main_while1b_v56
  nar := .of main_while1b_v57
  wid := .of main_while1b_v58
  one := .of main_while1b_c_15
  next := .of main_while1b_v59
  bound := .of main_while1c_c_15
  test := .of main_while1c_v55

/-- The scan over the columns, for the mean. -/
noncomputable def trip2 : Trip sig 1 128 1 where
  src := .of main_v9_0
  ctr := .of main_v9_1
  acc := .of main_v9_2
  z0 := .of main_while2b_call2_c
  z1 := .of main_while2b_call2_c_0
  z2 := .of main_while2b_call2_c_1
  row := .of main_while2b_call2_v0
  out := .of main_while2b_v55
  sum := .of main_while2b_v56
  nar := .of main_while2b_v57
  wid := .of main_while2b_v58
  one := .of main_while2b_c_15
  next := .of main_while2b_v59
  bound := .of main_while2c_c_15
  test := .of main_while2c_v55

/-- The scan over the images, for the variance. -/
noncomputable def trip3 : Trip sig 128 64 64 where
  src := .of main_v24_0
  ctr := .of main_v24_1
  acc := .of main_v24_2
  z0 := .of main_while3b_call3_c
  z1 := .of main_while3b_call3_c_0
  z2 := .of main_while3b_call3_c_1
  row := .of main_while3b_call3_v0
  out := .of main_while3b_v55
  sum := .of main_while3b_v56
  nar := .of main_while3b_v57
  wid := .of main_while3b_v58
  one := .of main_while3b_c_15
  next := .of main_while3b_v59
  bound := .of main_while3c_c_15
  test := .of main_while3c_v55

/-- The scan over the rows, for the variance. -/
noncomputable def trip4 : Trip sig 1 128 64 where
  src := .of main_v28_0
  ctr := .of main_v28_1
  acc := .of main_v28_2
  z0 := .of main_while4b_call4_c
  z1 := .of main_while4b_call4_c_0
  z2 := .of main_while4b_call4_c_1
  row := .of main_while4b_call4_v0
  out := .of main_while4b_v55
  sum := .of main_while4b_v56
  nar := .of main_while4b_v57
  wid := .of main_while4b_v58
  one := .of main_while4b_c_15
  next := .of main_while4b_v59
  bound := .of main_while4c_c_15
  test := .of main_while4c_v55

/-- The scan over the columns, for the variance. -/
noncomputable def trip5 : Trip sig 1 128 1 where
  src := .of main_v32_0
  ctr := .of main_v32_1
  acc := .of main_v32_2
  z0 := .of main_while5b_call5_c
  z1 := .of main_while5b_call5_c_0
  z2 := .of main_while5b_call5_c_1
  row := .of main_while5b_call5_v0
  out := .of main_while5b_v55
  sum := .of main_while5b_v56
  nar := .of main_while5b_v57
  wid := .of main_while5b_v58
  one := .of main_while5b_c_15
  next := .of main_while5b_v59
  bound := .of main_while5c_c_15
  test := .of main_while5c_v55

/-- The exchange of axes between the first and the second scan. -/
noncomputable def turn1 : Turn sig S128x64x64 S1x128x64x64 1 128 64 where
  old := .of main_v1_2
  mid := .of main_v2
  new := .of main_v3
  zero := .of main_cst_0
  zeros := .of main_v4
  start := .of main_c_1
  loop := trip1

/-- The exchange of axes between the second and the third scan. -/
noncomputable def turn2 : Turn sig S1x128x64 S1x128x1x64 1 128 1 where
  old := .of main_v5_2
  mid := .of main_v6
  new := .of main_v7
  zero := .of main_cst_2
  zeros := .of main_v8
  start := .of main_c_3
  loop := trip2

/-- The exchange of axes between the fourth and the fifth scan. -/
noncomputable def turn4 : Turn sig S128x64x64 S1x128x64x64 1 128 64 where
  old := .of main_v24_2
  mid := .of main_v25
  new := .of main_v26
  zero := .of main_cst_7
  zeros := .of main_v27
  start := .of main_c_8
  loop := trip4

/-- The exchange of axes between the fifth and the sixth scan. -/
noncomputable def turn5 : Turn sig S1x128x64 S1x128x1x64 1 128 1 where
  old := .of main_v28_2
  mid := .of main_v29
  new := .of main_v30
  zero := .of main_cst_9
  zeros := .of main_v31
  start := .of main_c_10
  loop := trip5

variable {F : FTy → Type} [FloatOps F]

section Lists

variable [Facts]

/-- The zeros, and the first loop set up on the argument. -/
noncomputable def pre0 : List (HloOp τ sig (Elt F)) :=
  [ nullary main_cst (constant S_ .f32 0x00000000#32),
    unary main_cst main_v0 (broadcastInDim S128x64x64 ![] bcast_S_S128x64x64 : (⟨S_, .f32⟩ : BufTy).Contents (Elt F) → (⟨S128x64x64, .f32⟩ : BufTy).Contents (Elt F)),
    nullary main_c (constantI S_ 32 0#32),
    unary main_arg0 main_v1_0 id,
    unary main_c main_v1_1 id,
    unary main_v0 main_v1_2 id ]

/-- The mean, the deviations and their squares, and the fourth loop set up on the squares. -/
noncomputable def pre3 : List (HloOp τ sig (Elt F)) :=
  [ unary main_v9_2 main_v10 (broadcastInDim S1x128x1x1 ![0, 1, 2] bcast_S1x128x1_S1x128x1x1_0_1_2 : (⟨S1x128x1, .f32⟩ : BufTy).Contents (Elt F) → (⟨S1x128x1x1, .f32⟩ : BufTy).Contents (Elt F)),
    nullary main_cst_4 (constant S_ .f32 0x48800000#32),
    unary main_cst_4 main_v11 (broadcastInDim S1x128x1x1 ![] bcast_S_S1x128x1x1 : (⟨S_, .f32⟩ : BufTy).Contents (Elt F) → (⟨S1x128x1x1, .f32⟩ : BufTy).Contents (Elt F)),
    binary main_v10 main_v11 main_v12 (Host.divf : (⟨S1x128x1x1, .f32⟩ : BufTy).Contents (Elt F) → (⟨S1x128x1x1, .f32⟩ : BufTy).Contents (Elt F) → (⟨S1x128x1x1, .f32⟩ : BufTy).Contents (Elt F)),
    unary main_v12 main_v13 ((truncf .bf16 · bitsLt_bf16_f32) : (⟨S1x128x1x1, .f32⟩ : BufTy).Contents (Elt F) → (⟨S1x128x1x1, .bf16⟩ : BufTy).Contents (Elt F)),
    unary main_v13 main_v14 ((extf .f32 · bitsLt_bf16_f32) : (⟨S1x128x1x1, .bf16⟩ : BufTy).Contents (Elt F) → (⟨S1x128x1x1, .f32⟩ : BufTy).Contents (Elt F)),
    unary main_v14 main_v15 (Host.negf : (⟨S1x128x1x1, .f32⟩ : BufTy).Contents (Elt F) → (⟨S1x128x1x1, .f32⟩ : BufTy).Contents (Elt F)),
    unary main_v15 main_v16 (broadcastInDim S64x128x64x64 ![0, 1, 2, 3] bcast_S1x128x1x1_S64x128x64x64_0_1_2_3 : (⟨S1x128x1x1, .f32⟩ : BufTy).Contents (Elt F) → (⟨S64x128x64x64, .f32⟩ : BufTy).Contents (Elt F)),
    binary main_arg0 main_v16 main_v17 (addf : (⟨S64x128x64x64, .f32⟩ : BufTy).Contents (Elt F) → (⟨S64x128x64x64, .f32⟩ : BufTy).Contents (Elt F) → (⟨S64x128x64x64, .f32⟩ : BufTy).Contents (Elt F)),
    unary main_v17 main_v18 ((truncf .bf16 · bitsLt_bf16_f32) : (⟨S64x128x64x64, .f32⟩ : BufTy).Contents (Elt F) → (⟨S64x128x64x64, .bf16⟩ : BufTy).Contents (Elt F)),
    unary main_v18 main_v19 ((extf .f32 · bitsLt_bf16_f32) : (⟨S64x128x64x64, .bf16⟩ : BufTy).Contents (Elt F) → (⟨S64x128x64x64, .f32⟩ : BufTy).Contents (Elt F)),
    binary main_v19 main_v19 main_v20 (mulf : (⟨S64x128x64x64, .f32⟩ : BufTy).Contents (Elt F) → (⟨S64x128x64x64, .f32⟩ : BufTy).Contents (Elt F) → (⟨S64x128x64x64, .f32⟩ : BufTy).Contents (Elt F)),
    unary main_v20 main_v21 ((truncf .bf16 · bitsLt_bf16_f32) : (⟨S64x128x64x64, .f32⟩ : BufTy).Contents (Elt F) → (⟨S64x128x64x64, .bf16⟩ : BufTy).Contents (Elt F)),
    unary main_v21 main_v22 ((extf .f32 · bitsLt_bf16_f32) : (⟨S64x128x64x64, .bf16⟩ : BufTy).Contents (Elt F) → (⟨S64x128x64x64, .f32⟩ : BufTy).Contents (Elt F)),
    nullary main_cst_5 (constant S_ .f32 0x00000000#32),
    unary main_cst_5 main_v23 (broadcastInDim S128x64x64 ![] bcast_S_S128x64x64 : (⟨S_, .f32⟩ : BufTy).Contents (Elt F) → (⟨S128x64x64, .f32⟩ : BufTy).Contents (Elt F)),
    nullary main_c_6 (constantI S_ 32 0#32),
    unary main_v22 main_v24_0 id,
    unary main_c_6 main_v24_1 id,
    unary main_v23 main_v24_2 id ]

/-- The deviation divided by its root mean square, scaled and shifted. -/
noncomputable def post : List (HloOp τ sig (Elt F)) :=
  [ unary main_v32_2 main_v33 (broadcastInDim S1x128x1x1 ![0, 1, 2] bcast_S1x128x1_S1x128x1x1_0_1_2 : (⟨S1x128x1, .f32⟩ : BufTy).Contents (Elt F) → (⟨S1x128x1x1, .f32⟩ : BufTy).Contents (Elt F)),
    nullary main_cst_11 (constant S_ .f32 0x48800000#32),
    unary main_cst_11 main_v34 (broadcastInDim S1x128x1x1 ![] bcast_S_S1x128x1x1 : (⟨S_, .f32⟩ : BufTy).Contents (Elt F) → (⟨S1x128x1x1, .f32⟩ : BufTy).Contents (Elt F)),
    binary main_v33 main_v34 main_v35 (Host.divf : (⟨S1x128x1x1, .f32⟩ : BufTy).Contents (Elt F) → (⟨S1x128x1x1, .f32⟩ : BufTy).Contents (Elt F) → (⟨S1x128x1x1, .f32⟩ : BufTy).Contents (Elt F)),
    unary main_v35 main_v36 ((truncf .bf16 · bitsLt_bf16_f32) : (⟨S1x128x1x1, .f32⟩ : BufTy).Contents (Elt F) → (⟨S1x128x1x1, .bf16⟩ : BufTy).Contents (Elt F)),
    unary main_v36 main_v37 ((extf .f32 · bitsLt_bf16_f32) : (⟨S1x128x1x1, .bf16⟩ : BufTy).Contents (Elt F) → (⟨S1x128x1x1, .f32⟩ : BufTy).Contents (Elt F)),
    nullary main_cst_12 (constant S_ .f32 0x3727C5AC#32),
    unary main_cst_12 main_v38 (broadcastInDim S1x128x1x1 ![] bcast_S_S1x128x1x1 : (⟨S_, .f32⟩ : BufTy).Contents (Elt F) → (⟨S1x128x1x1, .f32⟩ : BufTy).Contents (Elt F)),
    binary main_v37 main_v38 main_v39 (addf : (⟨S1x128x1x1, .f32⟩ : BufTy).Contents (Elt F) → (⟨S1x128x1x1, .f32⟩ : BufTy).Contents (Elt F) → (⟨S1x128x1x1, .f32⟩ : BufTy).Contents (Elt F)),
    unary main_v39 main_v40 (Host.sqrt : (⟨S1x128x1x1, .f32⟩ : BufTy).Contents (Elt F) → (⟨S1x128x1x1, .f32⟩ : BufTy).Contents (Elt F)),
    unary main_v40 main_v41 ((truncf .bf16 · bitsLt_bf16_f32) : (⟨S1x128x1x1, .f32⟩ : BufTy).Contents (Elt F) → (⟨S1x128x1x1, .bf16⟩ : BufTy).Contents (Elt F)),
    unary main_v41 main_v42 ((extf .f32 · bitsLt_bf16_f32) : (⟨S1x128x1x1, .bf16⟩ : BufTy).Contents (Elt F) → (⟨S1x128x1x1, .f32⟩ : BufTy).Contents (Elt F)),
    unary main_v42 main_v43 (broadcastInDim S64x128x64x64 ![0, 1, 2, 3] bcast_S1x128x1x1_S64x128x64x64_0_1_2_3 : (⟨S1x128x1x1, .f32⟩ : BufTy).Contents (Elt F) → (⟨S64x128x64x64, .f32⟩ : BufTy).Contents (Elt F)),
    binary main_v19 main_v43 main_v44 (Host.divf : (⟨S64x128x64x64, .f32⟩ : BufTy).Contents (Elt F) → (⟨S64x128x64x64, .f32⟩ : BufTy).Contents (Elt F) → (⟨S64x128x64x64, .f32⟩ : BufTy).Contents (Elt F)),
    unary main_v44 main_v45 ((truncf .bf16 · bitsLt_bf16_f32) : (⟨S64x128x64x64, .f32⟩ : BufTy).Contents (Elt F) → (⟨S64x128x64x64, .bf16⟩ : BufTy).Contents (Elt F)),
    unary main_v45 main_v46 ((extf .f32 · bitsLt_bf16_f32) : (⟨S64x128x64x64, .bf16⟩ : BufTy).Contents (Elt F) → (⟨S64x128x64x64, .f32⟩ : BufTy).Contents (Elt F)),
    unary main_arg1 main_v47 (broadcastInDim S64x128x64x64 ![0, 1, 2, 3] bcast_S1x128x1x1_S64x128x64x64_0_1_2_3 : (⟨S1x128x1x1, .f32⟩ : BufTy).Contents (Elt F) → (⟨S64x128x64x64, .f32⟩ : BufTy).Contents (Elt F)),
    binary main_v47 main_v46 main_v48 (mulf : (⟨S64x128x64x64, .f32⟩ : BufTy).Contents (Elt F) → (⟨S64x128x64x64, .f32⟩ : BufTy).Contents (Elt F) → (⟨S64x128x64x64, .f32⟩ : BufTy).Contents (Elt F)),
    unary main_v48 main_v49 ((truncf .bf16 · bitsLt_bf16_f32) : (⟨S64x128x64x64, .f32⟩ : BufTy).Contents (Elt F) → (⟨S64x128x64x64, .bf16⟩ : BufTy).Contents (Elt F)),
    unary main_v49 main_v50 ((extf .f32 · bitsLt_bf16_f32) : (⟨S64x128x64x64, .bf16⟩ : BufTy).Contents (Elt F) → (⟨S64x128x64x64, .f32⟩ : BufTy).Contents (Elt F)),
    unary main_arg2 main_v51 (broadcastInDim S64x128x64x64 ![0, 1, 2, 3] bcast_S1x128x1x1_S64x128x64x64_0_1_2_3 : (⟨S1x128x1x1, .f32⟩ : BufTy).Contents (Elt F) → (⟨S64x128x64x64, .f32⟩ : BufTy).Contents (Elt F)),
    binary main_v50 main_v51 main_v52 (addf : (⟨S64x128x64x64, .f32⟩ : BufTy).Contents (Elt F) → (⟨S64x128x64x64, .f32⟩ : BufTy).Contents (Elt F) → (⟨S64x128x64x64, .f32⟩ : BufTy).Contents (Elt F)),
    unary main_v52 main_v53 ((truncf .bf16 · bitsLt_bf16_f32) : (⟨S64x128x64x64, .f32⟩ : BufTy).Contents (Elt F) → (⟨S64x128x64x64, .bf16⟩ : BufTy).Contents (Elt F)),
    unary main_v53 main_v54 ((extf .f32 · bitsLt_bf16_f32) : (⟨S64x128x64x64, .bf16⟩ : BufTy).Contents (Elt F) → (⟨S64x128x64x64, .f32⟩ : BufTy).Contents (Elt F)) ]

/-- The operations before the first scan are plain. -/
theorem pre0_plain : Plain [pre0 (F := F)] := by
  intro ops h
  cases h with
  | tail _ h => exact nomatch h
  | head =>
    refine ⟨List.forall_iff_forall_mem.mp ?_, List.forall_iff_forall_mem.mp ?_⟩
    · simp [pre0]
    · simp only [pre0, List.Forall]; repeat' constructor

/-- The operations before the fourth scan are plain. -/
theorem pre3_plain : Plain [pre3 (F := F)] := by
  intro ops h
  cases h with
  | tail _ h => exact nomatch h
  | head =>
    refine ⟨List.forall_iff_forall_mem.mp ?_, List.forall_iff_forall_mem.mp ?_⟩
    · simp [pre3]
    · simp only [pre3, List.Forall]; repeat' constructor

/-- The operations after the last scan are plain. -/
theorem post_plain : Plain [post (F := F)] := by
  intro ops h
  cases h with
  | tail _ h => exact nomatch h
  | head =>
    refine ⟨List.forall_iff_forall_mem.mp ?_, List.forall_iff_forall_mem.mp ?_⟩
    · simp [post]
    · simp only [post, List.Forall]; repeat' constructor

end Lists

end Cert.ReferenceIdeal.Hand
-- ==== Proof.ReferenceRun.lean ====
/-
  The reference's run: its six stages, and what every buffer ends at.
-/
module

public import proofs.«01_k».proof.Proof.ReferenceOps

@[expose] public section

set_option maxRecDepth 65536

noncomputable section

namespace Cert.ReferenceIdeal.Hand

open Idealize.ShloMosaic Idealize.ShloMosaic.TcCoe Idealize.ShloMosaic.StableHlo
open Idealize.SL.Sem
open Cert.Host Cert.Bn Facts₀

variable {F : FTy → Type} [FloatOps F]

/-- The arrays of the first scan are distinct. -/
theorem trip0_nodup : trip0.refs.Nodup := by decide
/-- The arrays of the second scan are distinct. -/
theorem trip1_nodup : trip1.refs.Nodup := by decide
/-- The arrays of the third scan are distinct. -/
theorem trip2_nodup : trip2.refs.Nodup := by decide
/-- The arrays of the fourth scan are distinct. -/
theorem trip3_nodup : trip3.refs.Nodup := by decide
/-- The arrays of the fifth scan are distinct. -/
theorem trip4_nodup : trip4.refs.Nodup := by decide
/-- The arrays of the sixth scan are distinct. -/
theorem trip5_nodup : trip5.refs.Nodup := by decide
/-- The arrays of the exchange before the second scan are distinct. -/
theorem turn1_nodup : turn1.refs.Nodup := by decide
/-- The arrays of the exchange before the third scan are distinct. -/
theorem turn2_nodup : turn2.refs.Nodup := by decide
/-- The arrays of the exchange before the fifth scan are distinct. -/
theorem turn4_nodup : turn4.refs.Nodup := by decide
/-- The arrays of the exchange before the sixth scan are distinct. -/
theorem turn5_nodup : turn5.refs.Nodup := by decide

section Values

variable [Facts]

/-- The first loop starts at zero. -/
theorem pre0_ctr (V : Valuation τ sig (Elt F)) : after pre0 V main_v1_1 = fun _ => 0#32 := by
  simp (discharger := decide) only [pre0, after_cons, after_nil, nullary_result', nullary_result_ne', unary_result', unary_result_ne', id_eq]
  rfl

/-- So does the fourth. -/
theorem pre3_ctr (V : Valuation τ sig (Elt F)) : after pre3 V main_v24_1 = fun _ => 0#32 := by
  simp (discharger := decide) only [pre3, after_cons, after_nil, nullary_result', nullary_result_ne', unary_result', unary_result_ne',
    binary_result_ne', id_eq]
  rfl

/-- The images' axis put back, of length one. -/
abbrev lift1 (v : FVec F S128x64x64 .f32) : FVec F S1x128x64x64 .f32 := broadcastInDim S1x128x64x64 ![1, 2, 3] bcast_S128x64x64_S1x128x64x64_1_2_3 v
/-- The rows' axis brought to the front. -/
abbrev front1 (v : FVec F S1x128x64x64 .f32) : FVec F S64x1x128x64 .f32 := transpose S64x1x128x64 [2, 0, 1, 3] v transposes_S1x128x64x64_S64x1x128x64_2_0_1_3
/-- The rows' axis put back, of length one. -/
abbrev lift2 (v : FVec F S1x128x64 .f32) : FVec F S1x128x1x64 .f32 := broadcastInDim S1x128x1x64 ![0, 1, 3] bcast_S1x128x64_S1x128x1x64_0_1_3 v
/-- The columns' axis brought to the front. -/
abbrev front2 (v : FVec F S1x128x1x64 .f32) : FVec F S64x1x128x1 .f32 := transpose S64x1x128x1 [3, 0, 1, 2] v transposes_S1x128x1x64_S64x1x128x1_3_0_1_2

/-- The sum over the images, for the mean. -/
def stage0 : Stage (nD := nD) (τ := τ) (F := F) pcfgs defs₀ loops :=
  trip0.stage sliceFits_S64x128x64x64_S1x128x64x64 shapeCasts_S1x128x64x64_S128x64x64 pcfgs defs₀ loops trip0_nodup [pre0] pre0_plain 0 main_while0_body
    (by chain_rfl) (by chain_rfl) pre0_ctr

/-- The sum over the rows, for the mean. -/
def stage1 : Stage (nD := nD) (τ := τ) (F := F) pcfgs defs₀ loops :=
  turn1.stage lift1 front1 bcast_S_S1x128x64 turn1_nodup sliceFits_S64x1x128x64_S1x1x128x64 shapeCasts_S1x1x128x64_S1x128x64 pcfgs defs₀ loops trip1_nodup 1
    main_while1_body (by chain_rfl) (by chain_rfl)

/-- The sum over the columns, for the mean. -/
def stage2 : Stage (nD := nD) (τ := τ) (F := F) pcfgs defs₀ loops :=
  turn2.stage lift2 front2 bcast_S_S1x128x1 turn2_nodup sliceFits_S64x1x128x1_S1x1x128x1 shapeCasts_S1x1x128x1_S1x128x1 pcfgs defs₀ loops trip2_nodup 2
    main_while2_body (by chain_rfl) (by chain_rfl)

/-- The difference from the mean and the sum of its squares over the images. -/
def stage3 : Stage (nD := nD) (τ := τ) (F := F) pcfgs defs₀ loops :=
  trip3.stage sliceFits_S64x128x64x64_S1x128x64x64 shapeCasts_S1x128x64x64_S128x64x64 pcfgs defs₀ loops trip3_nodup [pre3] pre3_plain 3 main_while3_body
    (by chain_rfl) (by chain_rfl) pre3_ctr

/-- The sum of squares over the rows. -/
def stage4 : Stage (nD := nD) (τ := τ) (F := F) pcfgs defs₀ loops :=
  turn4.stage lift1 front1 bcast_S_S1x128x64 turn4_nodup sliceFits_S64x1x128x64_S1x1x128x64 shapeCasts_S1x1x128x64_S1x128x64 pcfgs defs₀ loops trip4_nodup 4
    main_while4_body (by chain_rfl) (by chain_rfl)

/-- The sum of squares over the columns. -/
def stage5 : Stage (nD := nD) (τ := τ) (F := F) pcfgs defs₀ loops :=
  turn5.stage lift2 front2 bcast_S_S1x128x1 turn5_nodup sliceFits_S64x1x128x1_S1x1x128x1 shapeCasts_S1x1x128x1_S1x128x1 pcfgs defs₀ loops trip5_nodup 5
    main_while5_body (by chain_rfl) (by chain_rfl)

/-- The six stages in their order. -/
def stages : List (Stage (nD := nD) (τ := τ) (F := F) pcfgs defs₀ loops) := [stage0, stage1, stage2, stage3, stage4, stage5]

/-- The program is its stages and the closing operations. -/
theorem main_stages (c : Dev nD) : main (F := F) c = Pipeline.chain (itemsAll stages ++ [post].map fun ops => seq ops) := by
  chain_rfl

/-- The reference runs to its end, and every buffer ends at what the operations leave in it. -/
theorem run (m : (ℓ : Loc nD τ sig) → Buf (Elt F) ℓ) (ρ : Dev nD → PrngReg) [∀ e, Nonempty (Elt F e)] :
    θ_run (defs (F := F)) (onTc (τ := τ) main) ⟨m, fun _ => 0, ρ⟩
      (fun r => ∀ (c : Dev nD) (b : Ref sig .tc), (Proc.devRef .tc b : DevRef τ sig).isScoped = false →
        r.2.mem ((c.tc : Thread nD τ).loc b) = after post (runAll stages (launchContents m) c) (Proc.devRef .tc b)) :=
  run_stages stages [post] post_plain main main_stages m ρ

end Values

end Cert.ReferenceIdeal.Hand
-- ==== Proof.ReferenceKeep.lean ====
/-
  What the reference's own stretches write, and that its stages leave the arguments and the deviations alone.
-/
module

public import proofs.«01_k».proof.Proof.ReferenceRun

@[expose] public section

set_option maxRecDepth 65536

noncomputable section

namespace Cert.ReferenceIdeal.Hand

open Idealize.ShloMosaic Idealize.ShloMosaic.TcCoe Idealize.ShloMosaic.StableHlo
open Idealize.SL.Sem
open Cert.Host Cert.Bn Facts₀

variable {F : FTy → Type} [FloatOps F] [Facts]
variable (V : Valuation τ sig (Elt F)) (W : Dev nD → Valuation τ sig (Elt F)) (d : Dev nD)

/-- What each stretch writes. -/
def pre0Refs : List (Ref sig .tc) := [main_cst, main_v0, main_c, main_v1_0, main_v1_1, main_v1_2]
/-- What the operations before the fourth scan write. -/
def pre3Refs : List (Ref sig .tc) := [main_v10, main_cst_4, main_v11, main_v12, main_v13, main_v14, main_v15, main_v16, main_v17, main_v18,
  main_v19, main_v20, main_v21, main_v22, main_cst_5, main_v23, main_c_6, main_v24_0, main_v24_1, main_v24_2]
/-- What the operations after the last scan write. -/
def postRefs : List (Ref sig .tc) := [main_v33, main_cst_11, main_v34, main_v35, main_v36, main_v37, main_cst_12, main_v38, main_v39,
  main_v40, main_v41, main_v42, main_v43, main_v44, main_v45, main_v46, main_v47, main_v48, main_v49, main_v50, main_v51, main_v52, main_v53, main_v54]

/-- The operations before the first scan keep every array that they do not write. -/
theorem pre0_keep {r : Ref sig .tc} (h : r ∉ pre0Refs) : after pre0 V r = V r := by
  refine after_of_forall_not_mem _ V (List.forall_iff_forall_mem.mp ?_)
  simp only [pre0Refs, List.mem_cons, List.not_mem_nil, or_false, not_or] at h
  simp only [pre0, List.Forall, nullary_writes, unary_writes, Finset.mem_singleton]
  repeat' constructor
  all_goals exact devRef_ne_of_ne (by simp only [ne_eq, h, not_false_eq_true])

/-- The operations before the fourth scan keep every array that they do not write. -/
theorem pre3_keep {r : Ref sig .tc} (h : r ∉ pre3Refs) : after pre3 V r = V r := by
  refine after_of_forall_not_mem _ V (List.forall_iff_forall_mem.mp ?_)
  simp only [pre3Refs, List.mem_cons, List.not_mem_nil, or_false, not_or] at h
  simp only [pre3, List.Forall, nullary_writes, unary_writes, binary_writes, Finset.mem_singleton]
  repeat' constructor
  all_goals exact devRef_ne_of_ne (by simp only [ne_eq, h, not_false_eq_true])

/-- The operations after the last scan keep every array that they do not write. -/
theorem post_keep {r : Ref sig .tc} (h : r ∉ postRefs) : after post V r = V r := by
  refine after_of_forall_not_mem _ V (List.forall_iff_forall_mem.mp ?_)
  simp only [postRefs, List.mem_cons, List.not_mem_nil, or_false, not_or] at h
  simp only [post, List.Forall, nullary_writes, unary_writes, binary_writes, Finset.mem_singleton]
  repeat' constructor
  all_goals exact devRef_ne_of_ne (by simp only [ne_eq, h, not_false_eq_true])

/-- The first stage keeps every array that it does not write. -/
theorem stage0_keep {r : Ref sig .tc} (h : r ∉ pre0Refs) (h' : r ∉ trip0.written) : stage0.exit W d r = W d r :=
  (trip0.exit_keep _ _ W d trip0_nodup _ _ _ _ _ _ _ h').trans (pre0_keep (W d) h)

/-- The second stage keeps every array that it does not write. -/
theorem stage1_keep {r : Ref sig .tc} (h : r ∉ turn1.written) (h' : r ∉ trip1.written) : stage1.exit W d r = W d r :=
  turn1.exit_keep _ _ _ turn1_nodup _ _ trip1_nodup _ _ _ _ W d h h'

/-- The third stage keeps every array that it does not write. -/
theorem stage2_keep {r : Ref sig .tc} (h : r ∉ turn2.written) (h' : r ∉ trip2.written) : stage2.exit W d r = W d r :=
  turn2.exit_keep _ _ _ turn2_nodup _ _ trip2_nodup _ _ _ _ W d h h'

/-- Through the fourth stage a buffer its loop does not write holds what its stretch left. -/
theorem stage3_after {r : Ref sig .tc} (h' : r ∉ trip3.written) : stage3.exit W d r = after pre3 (W d) r :=
  trip3.exit_keep _ _ W d trip3_nodup _ _ _ _ _ _ _ h'

/-- The fifth stage keeps every array that it does not write. -/
theorem stage4_keep {r : Ref sig .tc} (h : r ∉ turn4.written) (h' : r ∉ trip4.written) : stage4.exit W d r = W d r :=
  turn4.exit_keep _ _ _ turn4_nodup _ _ trip4_nodup _ _ _ _ W d h h'

/-- The sixth stage keeps every array that it does not write. -/
theorem stage5_keep {r : Ref sig .tc} (h : r ∉ turn5.written) (h' : r ∉ trip5.written) : stage5.exit W d r = W d r :=
  turn5.exit_keep _ _ _ turn5_nodup _ _ trip5_nodup _ _ _ _ W d h h'

/-- What the first three stages write. -/
def headRefs : List (Ref sig .tc) := pre0Refs ++ trip0.written ++ turn1.written ++ trip1.written ++ turn2.written ++ trip2.written
/-- What the last two stages write. -/
def tailRefs : List (Ref sig .tc) := turn4.written ++ trip4.written ++ turn5.written ++ trip5.written

/-- The first three stages keep every array that they do not write. -/
theorem head_keep {r : Ref sig .tc} (h : r ∉ headRefs) : stage2.exit (stage1.exit (stage0.exit W)) d r = W d r := by
  simp only [headRefs, List.mem_append, not_or] at h
  obtain ⟨⟨⟨⟨⟨h0, h1⟩, h2⟩, h3⟩, h4⟩, h5⟩ := h
  rw [stage2_keep _ d h4 h5, stage1_keep _ d h2 h3, stage0_keep _ d h0 h1]

/-- The last two stages keep every array that they do not write. -/
theorem tail_keep {r : Ref sig .tc} (h : r ∉ tailRefs) : stage5.exit (stage4.exit W) d r = W d r := by
  simp only [tailRefs, List.mem_append, not_or] at h
  obtain ⟨⟨⟨h0, h1⟩, h2⟩, h3⟩ := h
  rw [stage5_keep _ d h2 h3, stage4_keep _ d h0 h1]

/-- A buffer no stage writes keeps its contents to the end of the loops. -/
theorem all_keep {r : Ref sig .tc} (h : r ∉ headRefs) (h1 : r ∉ pre3Refs) (h2 : r ∉ trip3.written) (h3 : r ∉ tailRefs) :
    runAll stages W d r = W d r := by
  show stage5.exit (stage4.exit (stage3.exit (stage2.exit (stage1.exit (stage0.exit W))))) d r = _
  rw [tail_keep _ d h3, stage3_after _ d h2, pre3_keep _ h1, head_keep _ d h]

end Cert.ReferenceIdeal.Hand
-- ==== Proof.ReferenceValue.lean ====
/-
  What the reference computes, at every index.

  The sums over image, row and column are taken in that order, each from zero and rounded after each addition.
-/
module

public import proofs.«01_k».proof.Proof.ReferenceKeep
public import proofs.«01_k».proof.Proof.Spec

@[expose] public section

set_option maxRecDepth 65536

noncomputable section

namespace Cert.ReferenceIdeal.Hand

open Idealize.ShloMosaic Idealize.ShloMosaic.TcCoe Idealize.ShloMosaic.StableHlo
open Idealize.SL.Sem
open Cert.Host Cert.Bn Facts₀

/-- An array of rank four, by its coordinates. -/
def tab4 {α : Type} {a b c d : ℕ} (f : ℕ → ℕ → ℕ → ℕ → α) : (⟨4, ![a, b, c, d]⟩ : Shape).Idx → α :=
  fun z => f (z 0).val (z 1).val (z 2).val (z 3).val

variable {F : FTy → Type} [FloatOps F]

/-! ## The mathematics -/

section
variable (X : ℕ → ℕ → ℕ → ℕ → F .f32) (Wt Bs : ℕ → F .f32)

/-- The total of one channel: images first, then rows, then columns. -/
def total (A : ℕ → ℕ → ℕ → F .f32) : F .f32 :=
  qfold (fun w => qfold (fun h => qfold (fun n => A n h w) 64 zer) 64 zer) 64 zer
/-- A channel's average. -/
def ravg (A : ℕ → ℕ → ℕ → F .f32) : F .f32 := q1 (FloatOps.hostDivf (total A) cnt)
/-- A value less its channel's mean. -/
def rdev (n c h w : ℕ) : F .f32 := q1 (FloatOps.addf (X n c h w) (FloatOps.hostNegf (ravg fun n h w => X n c h w)))
/-- A channel's deviation. -/
def rstd (c : ℕ) : F .f32 := q1 (FloatOps.hostUnary .sqrt (FloatOps.addf (ravg fun n h w => sq1 (rdev X n c h w)) eps))
/-- The result. -/
def rres (n c h w : ℕ) : F .f32 :=
  q1 (FloatOps.addf (q1 (FloatOps.mulf (Wt c) (q1 (FloatOps.hostDivf (rdev X n c h w) (rstd X c))))) (Bs c))
end

/-! ## The stages -/

variable [Facts]

/-- The sum of the slices of an array along its first axis. -/
theorem first_sum (A : ℕ → ℕ → ℕ → ℕ → F .f32) :
    (fun i : S128x64x64.Idx => qfold (fun n => (tab4 A : FVec F S64x128x64x64 .f32) (Trip.lead n i)) 64 (zer : F .f32))
      = tab3 fun c h w => qfold (fun n => A n c h w) 64 zer := by
  funext i
  refine qfold_congr (fun n hn => ?_) _
  show A (n % 64) _ _ _ = A n _ _ _
  rw [Nat.mod_eq_of_lt hn]
  rfl

/-- The sum of the slices of the second axis, the first kept whole. -/
theorem second_sum (A : ℕ → ℕ → ℕ → F .f32) :
    (fun i : S1x128x64.Idx => qfold (fun n => front1 (lift1 (tab3 A)) (Trip.lead n i)) 64 (zer : F .f32))
      = tab3 fun _ c w => qfold (fun h => A c h w) 64 zer := by
  funext i
  refine qfold_congr (fun n hn => ?_) _
  have h1 := (i 1).isLt
  have h2 := (i 2).isLt
  refine (transpose_apply (s := S1x128x64x64) (t := S64x1x128x64) _ _ _ _
    (fun a => match a with | ⟨0, _⟩ => ⟨0, Nat.one_pos⟩ | ⟨1, _⟩ => i 1 | ⟨2, _⟩ => ⟨n, hn⟩ | ⟨3, _⟩ => i 2) ?_).trans ?_
  · intro b
    match b with
    | ⟨0, _⟩ => exact (Nat.mod_eq_of_lt hn).symm
    | ⟨1, _⟩ => have := (i 0).isLt; show 0 = (i 0).val; simp at this; omega
    | ⟨2, _⟩ => rfl
    | ⟨3, _⟩ => rfl
  refine (broadcastInDim_apply (s := S128x64x64) (t := S1x128x64x64) _ _ _ _
    (fun a => match a with | ⟨0, _⟩ => i 1 | ⟨1, _⟩ => ⟨n, hn⟩ | ⟨2, _⟩ => i 2) ?_).trans ?_
  · intro a
    match a with
    | ⟨0, _⟩ => rfl
    | ⟨1, _⟩ => rfl
    | ⟨2, _⟩ => rfl
  rfl

/-- The sum of the slices of the last axis. -/
theorem third_sum (A : ℕ → ℕ → ℕ → F .f32) :
    (fun i : S1x128x1.Idx => qfold (fun n => front2 (lift2 (tab3 A)) (Trip.lead n i)) 64 (zer : F .f32))
      = tab3 fun _ c _ => qfold (fun w => A 0 c w) 64 zer := by
  funext i
  refine qfold_congr (fun n hn => ?_) _
  refine (transpose_apply (s := S1x128x1x64) (t := S64x1x128x1) _ _ _ _
    (fun a => match a with | ⟨0, _⟩ => ⟨0, Nat.one_pos⟩ | ⟨1, _⟩ => i 1 | ⟨2, _⟩ => ⟨0, Nat.one_pos⟩ | ⟨3, _⟩ => ⟨n, hn⟩) ?_).trans ?_
  · intro b
    match b with
    | ⟨0, _⟩ => exact (Nat.mod_eq_of_lt hn).symm
    | ⟨1, _⟩ => have := (i 0).isLt; show 0 = (i 0).val; simp at this; omega
    | ⟨2, _⟩ => rfl
    | ⟨3, _⟩ => have := (i 2).isLt; show 0 = (i 2).val; simp at this; omega
  refine (broadcastInDim_apply (s := S1x128x64) (t := S1x128x1x64) _ _ _ _
    (fun a => match a with | ⟨0, _⟩ => ⟨0, Nat.one_pos⟩ | ⟨1, _⟩ => i 1 | ⟨2, _⟩ => ⟨n, hn⟩) ?_).trans ?_
  · intro a
    match a with
    | ⟨0, _⟩ => rfl
    | ⟨1, _⟩ => rfl
    | ⟨2, _⟩ => rfl
  rfl

variable (V : Valuation τ sig (Elt F)) (W : Dev nD → Valuation τ sig (Elt F)) (d : Dev nD)

/-- What the first stretch leaves. -/
theorem pre0_src : after pre0 V main_v1_0 = V main_arg0 := by
  simp (discharger := decide) only [pre0, after_cons, after_nil, nullary_result_ne', unary_result', unary_result_ne', id_eq]

/-- The first scan starts at zero. -/
theorem pre0_acc : after pre0 V main_v1_2 = fun _ => zer := by
  simp (discharger := decide) only [pre0, after_cons, after_nil, nullary_result', nullary_result_ne', unary_result', unary_result_ne', id_eq]
  rfl

/-- The first stage leaves the sums over the images. -/
theorem stage0_sum (X : ℕ → ℕ → ℕ → ℕ → F .f32) (h : W d main_arg0 = (tab4 X : FVec F S64x128x64x64 .f32)) :
    stage0.exit W d main_v1_2 = (tab3 fun c h w => qfold (fun n => X n c h w) 64 zer : FVec F S128x64x64 .f32) := by
  refine (trip0.exit_acc _ _ W d trip0_nodup [pre0] pre0_plain 0 main_while0_body _ _ pre0_ctr).trans ?_
  show (fun i : S128x64x64.Idx => qfold (fun n => (after pre0 (W d) main_v1_0 : FVec F S64x128x64x64 .f32) (Trip.lead n i)) 64
    ((after pre0 (W d) main_v1_2 : FVec F S128x64x64 .f32) i)) = _
  rw [pre0_src, pre0_acc, h]
  exact first_sum X

/-- The second stage leaves the sums over the rows. -/
theorem stage1_sum (A : ℕ → ℕ → ℕ → F .f32) (h : W d main_v1_2 = (tab3 A : FVec F S128x64x64 .f32)) :
    stage1.exit W d main_v5_2 = (tab3 fun _ c w => qfold (fun h => A c h w) 64 zer : FVec F S1x128x64 .f32) := by
  refine (turn1.exit_acc lift1 front1 _ turn1_nodup _ _ trip1_nodup 1 main_while1_body _ _ W d).trans ?_
  show (fun i : S1x128x64.Idx => qfold (fun n => front1 (lift1 (W d main_v1_2)) (Trip.lead n i)) 64 zer) = _
  rw [h]
  exact second_sum A

/-- The third stage leaves the sums over the columns. -/
theorem stage2_sum (A : ℕ → ℕ → ℕ → F .f32) (h : W d main_v5_2 = (tab3 A : FVec F S1x128x64 .f32)) :
    stage2.exit W d main_v9_2 = (tab3 fun _ c _ => qfold (fun w => A 0 c w) 64 zer : FVec F S1x128x1 .f32) := by
  refine (turn2.exit_acc lift2 front2 _ turn2_nodup _ _ trip2_nodup 2 main_while2_body _ _ W d).trans ?_
  show (fun i : S1x128x1.Idx => qfold (fun n => front2 (lift2 (W d main_v5_2)) (Trip.lead n i)) 64 zer) = _
  rw [h]
  exact third_sum A

/-- The fifth stage leaves the sums over the rows. -/
theorem stage4_sum (A : ℕ → ℕ → ℕ → F .f32) (h : W d main_v24_2 = (tab3 A : FVec F S128x64x64 .f32)) :
    stage4.exit W d main_v28_2 = (tab3 fun _ c w => qfold (fun h => A c h w) 64 zer : FVec F S1x128x64 .f32) := by
  refine (turn4.exit_acc lift1 front1 _ turn4_nodup _ _ trip4_nodup 4 main_while4_body _ _ W d).trans ?_
  show (fun i : S1x128x64.Idx => qfold (fun n => front1 (lift1 (W d main_v24_2)) (Trip.lead n i)) 64 zer) = _
  rw [h]
  exact second_sum A

/-- The sixth stage leaves the sums over the columns. -/
theorem stage5_sum (A : ℕ → ℕ → ℕ → F .f32) (h : W d main_v28_2 = (tab3 A : FVec F S1x128x64 .f32)) :
    stage5.exit W d main_v32_2 = (tab3 fun _ c _ => qfold (fun w => A 0 c w) 64 zer : FVec F S1x128x1 .f32) := by
  refine (turn5.exit_acc lift2 front2 _ turn5_nodup _ _ trip5_nodup 5 main_while5_body _ _ W d).trans ?_
  show (fun i : S1x128x1.Idx => qfold (fun n => front2 (lift2 (W d main_v28_2)) (Trip.lead n i)) 64 zer) = _
  rw [h]
  exact third_sum A

/-! ## The stretches between -/

/-- A number per channel at every index of an array. -/
theorem spread (f : ℕ → F .f32) :
    (broadcastInDim S64x128x64x64 ![0, 1, 2, 3] bcast_S1x128x1x1_S64x128x64x64_0_1_2_3 (tab4 (fun _ c _ _ => f c) : FVec F S1x128x1x1 .f32)
      : FVec F S64x128x64x64 .f32) = tab4 fun _ c _ _ => f c := by
  funext i
  refine (broadcastInDim_apply (s := S1x128x1x1) (t := S64x128x64x64) _ _ _ _
    (fun a => match a with | ⟨0, _⟩ => ⟨0, Nat.one_pos⟩ | ⟨1, _⟩ => i 1 | ⟨2, _⟩ => ⟨0, Nat.one_pos⟩ | ⟨3, _⟩ => ⟨0, Nat.one_pos⟩) ?_).trans ?_
  · intro a
    match a with
    | ⟨0, _⟩ => rfl
    | ⟨1, _⟩ => rfl
    | ⟨2, _⟩ => rfl
    | ⟨3, _⟩ => rfl
  rfl

/-- A total per channel, with one more axis. -/
theorem column (f : ℕ → F .f32) :
    (broadcastInDim S1x128x1x1 ![0, 1, 2] bcast_S1x128x1_S1x128x1x1_0_1_2 (tab3 (fun _ c _ => f c) : FVec F S1x128x1 .f32)
      : FVec F S1x128x1x1 .f32) = tab4 fun _ c _ _ => f c := by
  funext i
  refine (broadcastInDim_apply (s := S1x128x1) (t := S1x128x1x1) _ _ _ _
    (fun a => match a with | ⟨0, _⟩ => ⟨0, Nat.one_pos⟩ | ⟨1, _⟩ => i 1 | ⟨2, _⟩ => ⟨0, Nat.one_pos⟩) ?_).trans ?_
  · intro a
    match a with
    | ⟨0, _⟩ => rfl
    | ⟨1, _⟩ => rfl
    | ⟨2, _⟩ => rfl
  rfl

/-- A deviation, from a channel's total. -/
abbrev devAt (X : ℕ → ℕ → ℕ → ℕ → F .f32) (S : ℕ → F .f32) (n c h w : ℕ) : F .f32 :=
  q1 (FloatOps.addf (X n c h w) (FloatOps.hostNegf (q1 (FloatOps.hostDivf (S c) cnt))))

/-- Before the fourth scan the difference from the mean is computed. -/
theorem pre3_dev (X : ℕ → ℕ → ℕ → ℕ → F .f32) (S : ℕ → F .f32) (hX : V main_arg0 = (tab4 X : FVec F S64x128x64x64 .f32))
    (hS : V main_v9_2 = (tab3 (fun _ c _ => S c) : FVec F S1x128x1 .f32)) :
    after pre3 V main_v19 = (tab4 (devAt X S) : FVec F S64x128x64x64 .f32) := by
  simp (discharger := decide) only [pre3, after_cons, after_nil, nullary_result', nullary_result_ne', unary_result', unary_result_ne',
    binary_result', binary_result_ne', id_eq]
  rw [hX, hS, column]
  have e := spread (F := F) fun c => FloatOps.hostNegf (q1 (FloatOps.hostDivf (S c) cnt))
  exact congrArg (fun v => quant (addf (tab4 X : FVec F S64x128x64x64 .f32) v)) e

/-- The fourth scan sums the rounded squares of the differences. -/
theorem pre3_src : after pre3 V main_v24_0 = (quant (mulf (after pre3 V main_v19) (after pre3 V main_v19)) : FVec F S64x128x64x64 .f32) := by
  simp (discharger := decide) only [pre3, after_cons, after_nil, nullary_result_ne', unary_result', unary_result_ne',
    binary_result', binary_result_ne', id_eq]
  rfl

/-- The fourth scan starts at zero. -/
theorem pre3_acc : after pre3 V main_v24_2 = fun _ => zer := by
  simp (discharger := decide) only [pre3, after_cons, after_nil, nullary_result', nullary_result_ne', unary_result', unary_result_ne',
    binary_result_ne', id_eq]
  rfl

/-- The fourth stage leaves the sums of squares over the images. -/
theorem stage3_sum (D : ℕ → ℕ → ℕ → ℕ → F .f32) (h : after pre3 (W d) main_v19 = (tab4 D : FVec F S64x128x64x64 .f32)) :
    stage3.exit W d main_v24_2 = (tab3 fun c h w => qfold (fun n => sq1 (D n c h w)) 64 zer : FVec F S128x64x64 .f32) := by
  refine (trip3.exit_acc _ _ W d trip3_nodup [pre3] pre3_plain 3 main_while3_body _ _ pre3_ctr).trans ?_
  show (fun i : S128x64x64.Idx => qfold (fun n => (after pre3 (W d) main_v24_0 : FVec F S64x128x64x64 .f32) (Trip.lead n i)) 64
    ((after pre3 (W d) main_v24_2 : FVec F S128x64x64 .f32) i)) = _
  rw [pre3_src, pre3_acc, h]
  exact first_sum fun n c h w => sq1 (D n c h w)

/-- A deviation's square root, from a channel's total of squares. -/
abbrev stdAt (S : ℕ → F .f32) (c : ℕ) : F .f32 := q1 (FloatOps.hostUnary .sqrt (FloatOps.addf (q1 (FloatOps.hostDivf (S c) cnt)) eps))

/-- The operations after the last scan leave the scaled and shifted result. -/
theorem post_result (D : ℕ → ℕ → ℕ → ℕ → F .f32) (S Wt Bs : ℕ → F .f32) (hD : V main_v19 = (tab4 D : FVec F S64x128x64x64 .f32))
    (hS : V main_v32_2 = (tab3 (fun _ c _ => S c) : FVec F S1x128x1 .f32))
    (hW : V main_arg1 = (tab4 (fun _ c _ _ => Wt c) : FVec F S1x128x1x1 .f32)) (hB : V main_arg2 = (tab4 (fun _ c _ _ => Bs c) : FVec F S1x128x1x1 .f32)) :
    after post V main_v54 = (tab4 (fun n c h w =>
      q1 (FloatOps.addf (q1 (FloatOps.mulf (Wt c) (q1 (FloatOps.hostDivf (D n c h w) (stdAt S c))))) (Bs c))) : FVec F S64x128x64x64 .f32) := by
  simp (discharger := decide) only [post, after_cons, after_nil, nullary_result', nullary_result_ne', unary_result', unary_result_ne',
    binary_result', binary_result_ne', id_eq]
  rw [hD, hS, hW, hB, column, spread, spread]
  have e := spread (F := F) (stdAt S)
  exact congrArg (fun v => quant (addf (quant (mulf (tab4 (fun _ c _ _ => Wt c) : FVec F S64x128x64x64 .f32)
    (quant (Host.divf (tab4 D : FVec F S64x128x64x64 .f32) v)))) (tab4 (fun _ c _ _ => Bs c)))) e

/-! ## The whole program -/

/-- The reference's result at every index. -/
theorem result (X : ℕ → ℕ → ℕ → ℕ → F .f32) (Wt Bs : ℕ → F .f32) (hX : W d main_arg0 = (tab4 X : FVec F S64x128x64x64 .f32))
    (hW : W d main_arg1 = (tab4 (fun _ c _ _ => Wt c) : FVec F S1x128x1x1 .f32)) (hB : W d main_arg2 = (tab4 (fun _ c _ _ => Bs c) : FVec F S1x128x1x1 .f32)) :
    after post (runAll stages W d) main_v54 = (tab4 (rres X Wt Bs) : FVec F S64x128x64x64 .f32) := by
  have h0 := stage0_sum W d X hX
  have h1 := stage1_sum _ d _ h0
  have h2 := stage2_sum _ d _ h1
  have h3 := pre3_dev _ X _ ((head_keep W d (by decide)).trans hX) h2
  have h4 := stage3_sum _ d _ h3
  have h5 := stage4_sum _ d _ h4
  have h6 := stage5_sum _ d _ h5
  have h7 := (tail_keep (stage3.exit (stage2.exit (stage1.exit (stage0.exit W)))) d (r := main_v19) (by decide)).trans
    ((stage3_after _ d (by decide)).trans h3)
  have h8 := (all_keep W d (r := main_arg1) (by decide) (by decide) (by decide) (by decide)).trans hW
  have h9 := (all_keep W d (r := main_arg2) (by decide) (by decide) (by decide) (by decide)).trans hB
  exact post_result (runAll stages W d) (rdev X) (fun c => total fun n h w => sq1 (rdev X n c h w)) Wt Bs h7 h6 h8 h9

/-- The reference runs to its end; its result is the mathematics', and its arguments are unchanged. -/
theorem run_result [∀ e, Nonempty (Elt F e)] (m : (ℓ : Loc nD τ sig) → Buf (Elt F) ℓ) (ρ : Dev nD → PrngReg)
    (X : Dev nD → ℕ → ℕ → ℕ → ℕ → F .f32) (Wt Bs : Dev nD → ℕ → F .f32)
    (hX : ∀ c : Dev nD, m ((c.tc : Thread nD τ).loc main_arg0) = (tab4 (X c) : FVec F S64x128x64x64 .f32))
    (hW : ∀ c : Dev nD, m ((c.tc : Thread nD τ).loc main_arg1) = (tab4 (fun _ k _ _ => Wt c k) : FVec F S1x128x1x1 .f32))
    (hB : ∀ c : Dev nD, m ((c.tc : Thread nD τ).loc main_arg2) = (tab4 (fun _ k _ _ => Bs c k) : FVec F S1x128x1x1 .f32)) :
    θ_run (defs (F := F)) (onTc (τ := τ) main) ⟨m, fun _ => 0, ρ⟩ (fun r => ∀ c : Dev nD,
      r.2.mem ((c.tc : Thread nD τ).loc main_v54) = (tab4 (rres (X c) (Wt c) (Bs c)) : FVec F S64x128x64x64 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_v54 rfl).trans (result (launchContents m) c (X c) (Wt c) (Bs c) (hX c) (hW c) (hB c)),
     (h c main_arg0 rfl).trans ((post_keep _ (by decide)).trans (all_keep _ c (by decide) (by decide) (by decide) (by decide))),
     (h c main_arg1 rfl).trans ((post_keep _ (by decide)).trans (all_keep _ c (by decide) (by decide) (by decide) (by decide))),
     (h c main_arg2 rfl).trans ((post_keep _ (by decide)).trans (all_keep _ c (by decide) (by decide) (by decide) (by decide)))⟩)
    (run m ρ)

end Cert.ReferenceIdeal.Hand
-- ==== Proof.Layout.lean ====
/-
  The kernel's three flattened arguments and its unflattened result, by coordinates.

  The kernel lays the last two axes of the input out as one lane axis, lane `64 * h + w`, and gives its result back
  with the two axes apart; the weight and the bias become columns.
-/
module

public import proofs.«01_k».proof.Proof.KernelIdealRun
public import proofs.«01_k».proof.Proof.ReferenceValue

@[expose] public section

set_option maxRecDepth 65536

noncomputable section

namespace Cert.Layout

open Idealize.ShloMosaic Idealize.ShloMosaic.TcCoe Idealize.ShloMosaic.StableHlo Idealize.SL.Sem
open Cert.Bn Cert.KernelIdeal Cert.KernelIdeal.Gen Cert.KernelIdeal.Hand
open Cert.ReferenceIdeal.Hand (tab4)

variable {α : Type}

/-- The coordinates of an array of rank four. -/
def un4 {a b c d : ℕ} [NeZero a] [NeZero b] [NeZero c] [NeZero d] (v : (⟨4, ![a, b, c, d]⟩ : Shape).Idx → α) (x y z w : ℕ) : α :=
  v fun k => match k with | ⟨0, _⟩ => Fin.ofNat a x | ⟨1, _⟩ => Fin.ofNat b y | ⟨2, _⟩ => Fin.ofNat c z | ⟨3, _⟩ => Fin.ofNat d w

/-- Every array of rank four is given by its coordinates. -/
theorem tab4_un4 {a b c d : ℕ} [NeZero a] [NeZero b] [NeZero c] [NeZero d] (v : (⟨4, ![a, b, c, d]⟩ : Shape).Idx → α) :
    tab4 (un4 v) = v :=
  funext fun z => congrArg v (funext fun k =>
    match k with
    | ⟨0, _⟩ => Fin.ext (Nat.mod_eq_of_lt (z 0).isLt)
    | ⟨1, _⟩ => Fin.ext (Nat.mod_eq_of_lt (z 1).isLt)
    | ⟨2, _⟩ => Fin.ext (Nat.mod_eq_of_lt (z 2).isLt)
    | ⟨3, _⟩ => Fin.ext (Nat.mod_eq_of_lt (z 3).isLt))

/-- An array of one number per channel, by channel. -/
theorem tab4_channel (v : S1x128x1x1.Idx → α) : tab4 (fun _ k _ _ => un4 (a := 1) (b := 128) (c := 1) (d := 1) v 0 k 0 0) = v := by
  refine Eq.trans (funext fun z => ?_) (tab4_un4 (a := 1) (b := 128) (c := 1) (d := 1) v)
  have h0 : (z 0).val = 0 := Nat.lt_one_iff.mp (z 0).isLt
  have h2 : (z 2).val = 0 := Nat.lt_one_iff.mp (z 2).isLt
  have h3 : (z 3).val = 0 := Nat.lt_one_iff.mp (z 3).isLt
  unfold tab4
  rw [h0, h2, h3]

/-- The last two axes laid out as one. -/
theorem flatten (X : ℕ → ℕ → ℕ → ℕ → α) (h : S64x128x64x64.ShapeCasts S64x128x4096) :
    shapeCast S64x128x4096 (tab4 X : S64x128x64x64.Idx → α) h = tab3 fun n c l => X n c (l / 64) (l % 64) := by
  funext z
  have hl : (z 2).val < 4096 := (z 2).isLt
  refine (shapeCast_apply (s := S64x128x64x64) (t := S64x128x4096) _ h z
    (fun k => match k with | ⟨0, _⟩ => z 0 | ⟨1, _⟩ => z 1 | ⟨2, _⟩ => ⟨(z 2).val / 64, by show _ < 64; omega⟩ | ⟨3, _⟩ => ⟨(z 2).val % 64, by show _ < 64; omega⟩) ?_).trans rfl
  refine (Shape.rowMajor_val_four (d := ![64, 128, 64, 64]) _).trans ((Shape.rowMajor_val_three (d := ![64, 128, 4096]) z).trans ?_).symm
  show ((z 0).val * 128 + (z 1).val) * 4096 + (z 2).val = (((z 0).val * 128 + (z 1).val) * 64 + (z 2).val / 64) * 64 + (z 2).val % 64
  omega

/-- One lane axis taken apart into two. -/
theorem unflatten (f : ℕ → ℕ → ℕ → α) (h : S64x128x4096.ShapeCasts S64x128x64x64) :
    shapeCast S64x128x64x64 (tab3 f : S64x128x4096.Idx → α) h = tab4 fun n c k w => f n c (64 * k + w) := by
  funext z
  have h2 : (z 2).val < 64 := (z 2).isLt
  have h3 : (z 3).val < 64 := (z 3).isLt
  refine (shapeCast_apply (s := S64x128x4096) (t := S64x128x64x64) _ h z
    (fun k => match k with | ⟨0, _⟩ => z 0 | ⟨1, _⟩ => z 1 | ⟨2, _⟩ => ⟨64 * (z 2).val + (z 3).val, by show _ < 4096; omega⟩) ?_).trans rfl
  refine (Shape.rowMajor_val_three (d := ![64, 128, 4096]) _).trans ((Shape.rowMajor_val_four (d := ![64, 128, 64, 64]) z).trans ?_).symm
  show (((z 0).val * 128 + (z 1).val) * 64 + (z 2).val) * 64 + (z 3).val = ((z 0).val * 128 + (z 1).val) * 4096 + (64 * (z 2).val + (z 3).val)
  omega

/-- One number per channel as a column. -/
theorem column (f : ℕ → ℕ → ℕ → ℕ → α) (h : S1x128x1x1.ShapeCasts S128x1) :
    shapeCast S128x1 (tab4 f : S1x128x1x1.Idx → α) h = tab2 fun a _ => f 0 a 0 0 := by
  funext z
  have h1 : (z 1).val = 0 := Nat.lt_one_iff.mp (z 1).isLt
  refine (shapeCast_apply (s := S1x128x1x1) (t := S128x1) _ h z
    (fun k => match k with | ⟨0, _⟩ => ⟨0, Nat.one_pos⟩ | ⟨1, _⟩ => z 0 | ⟨2, _⟩ => ⟨0, Nat.one_pos⟩ | ⟨3, _⟩ => ⟨0, Nat.one_pos⟩) ?_).trans rfl
  refine (Shape.rowMajor_val_four (d := ![1, 128, 1, 1]) _).trans ((Shape.rowMajor_val_two (d := ![128, 1]) z).trans ?_).symm
  show (z 0).val * 1 + (z 1).val = ((0 * 128 + (z 0).val) * 1 + 0) * 1 + 0
  omega

variable {F : FTy → Type} [FloatOps F]
variable (m : (ℓ : Loc nD τ sig) → Buf (Elt F) ℓ) (c : Dev nD)

/-- The input by image, channel, row and column. -/
def X : ℕ → ℕ → ℕ → ℕ → F .f32 := un4 (a := 64) (b := 128) (c := 64) (d := 64) (m ((c : Thread nD τ).loc main_arg0))
/-- The weight by channel. -/
def Wt (k : ℕ) : F .f32 := un4 (a := 1) (b := 128) (c := 1) (d := 1) (m ((c : Thread nD τ).loc main_arg1)) 0 k 0 0
/-- The bias by channel. -/
def Bs (k : ℕ) : F .f32 := un4 (a := 1) (b := 128) (c := 1) (d := 1) (m ((c : Thread nD τ).loc main_arg2)) 0 k 0 0

/-- The grid finds the input with its last two axes laid out as one. -/
theorem found0 : V m c main_v0 = shapeCast S64x128x4096 (m ((c : Thread nD τ).loc main_arg0)) Facts₀.shapeCasts_S64x128x64x64_S64x128x4096 := by
  unfold V V0
  simp (discharger := decide) only [hostOps0, List.flatten_cons, List.flatten_nil, List.append_nil, after_cons, after_nil, reshape_result', reshape_result_ne']
  rfl

/-- The grid finds the weight as a column. -/
theorem found1 : V m c main_v1 = shapeCast S128x1 (m ((c : Thread nD τ).loc main_arg1)) Facts₀.shapeCasts_S1x128x1x1_S128x1 := by
  unfold V V0
  simp (discharger := decide) only [hostOps0, List.flatten_cons, List.flatten_nil, List.append_nil, after_cons, after_nil, reshape_result', reshape_result_ne']
  rfl

/-- The grid finds the bias as a column. -/
theorem found2 : V m c main_v2 = shapeCast S128x1 (m ((c : Thread nD τ).loc main_arg2)) Facts₀.shapeCasts_S1x128x1x1_S128x1 := by
  unfold V V0
  simp (discharger := decide) only [hostOps0, List.flatten_cons, List.flatten_nil, List.append_nil, after_cons, after_nil, reshape_result', reshape_result_ne']
  rfl

/-- The grid's input at a lane is the argument at the lane's two coordinates. -/
theorem Xin_eq (n k h w : ℕ) (hn : n < 64) (hk : k < 128) (hh : h < 64) (hw : w < 64) : Xin m c n k (64 * h + w) = X m c n k h w := by
  have e := found0 m c
  rw [← tab4_un4 (a := 64) (b := 128) (c := 64) (d := 64) (m ((c : Thread nD τ).loc main_arg0))] at e
  have e' := e.trans (flatten _ _)
  unfold Xin
  rw [e']
  show un4 _ (n % 64) (k % 128) ((64 * h + w) % 4096 / 64) ((64 * h + w) % 4096 % 64) = _
  rw [Nat.mod_eq_of_lt hn, Nat.mod_eq_of_lt hk, show (64 * h + w) % 4096 / 64 = h by omega, show (64 * h + w) % 4096 % 64 = w by omega]
  rfl

/-- The grid's weight at a channel is the argument there. -/
theorem Win_eq (k : ℕ) (hk : k < 128) : Win m c k = Wt m c k := by
  have e := found1 m c
  rw [← tab4_un4 (a := 1) (b := 128) (c := 1) (d := 1) (m ((c : Thread nD τ).loc main_arg1))] at e
  have e' := e.trans (column _ _)
  unfold Win
  rw [e']
  show un4 _ 0 (k % 128) 0 0 = _
  rw [Nat.mod_eq_of_lt hk]
  rfl

/-- The grid's bias at a channel is the argument there. -/
theorem Bin_eq (k : ℕ) (hk : k < 128) : Bin m c k = Bs m c k := by
  have e := found2 m c
  rw [← tab4_un4 (a := 1) (b := 128) (c := 1) (d := 1) (m ((c : Thread nD τ).loc main_arg2))] at e
  have e' := e.trans (column _ _)
  unfold Bin
  rw [e']
  show un4 _ 0 (k % 128) 0 0 = _
  rw [Nat.mod_eq_of_lt hk]
  rfl

end Cert.Layout
-- ==== Proof.Equation.lean ====
/-
  The kernel's mathematics and the reference's agree over the extended reals.

  The two sum in the same order. They differ in two places: the kernel subtracts the mean where the reference adds its
  negative, and it multiplies by one over the deviation where the reference divides by the deviation. The second is
  sound because a deviation is never zero: it is the root of a mean of squares plus a positive constant.
-/
module

public import proofs.«01_k».proof.Proof.ReferenceValue
public import Idealize.ShloMosaic.Lib.IdealHost

@[expose] public section

noncomputable section

namespace Cert.Equation

open Idealize.ShloMosaic Idealize.SL.Sem
open Cert.Bn
open Cert.ReferenceIdeal.Hand (total ravg rstd rres)

/-- The sums' start is zero. -/
theorem zer_eq : (zer : Ideal .f32) = (0 : EReal) := Ideal.ofBits_zero_f32

/-- The numerator of the reciprocal is one. -/
theorem one_eq : (one : Ideal .f32) = (1 : EReal) := by
  show Ideal.ofBits .f32 0x3F800000#32 = 1
  simp [Ideal.ofBits, Ideal.ieee]
  rw [← EReal.coe_mul]
  norm_num

/-- The count is the number of values in a channel. -/
theorem cnt_eq : (cnt : Ideal .f32) = ((262144 : ℝ) : EReal) := by
  show Ideal.ofBits .f32 0x48800000#32 = _
  simp [Ideal.ofBits, Ideal.ieee]
  rw [← EReal.coe_mul]
  norm_num

/-- The number added to the variance is positive. -/
theorem eps_pos : (0 : EReal) < (eps : Ideal .f32) := by
  show (0 : EReal) < Ideal.ofBits .f32 0x3727C5AC#32
  simp [Ideal.ofBits, Ideal.ieee]
  rw [← EReal.coe_mul]
  exact EReal.coe_pos.mpr (by norm_num)

/-- A square is not negative. -/
theorem sq_nonneg' (d : EReal) : 0 ≤ d * d := by
  induction d with
  | bot => simp
  | top => simp
  | coe r => exact_mod_cast mul_self_nonneg r

/-- A sum of values that are not negative is not negative. -/
theorem qfold_nonneg (f : ℕ → Ideal .f32) (h : ∀ i, (0 : EReal) ≤ f i) : ∀ k, (0 : EReal) ≤ qfold f k (zer : Ideal .f32)
  | 0 => le_of_eq zer_eq.symm
  | k + 1 => by
    show (0 : EReal) ≤ (qfold f k (zer : Ideal .f32) : EReal) + f k
    exact add_nonneg (qfold_nonneg f h k) (h k)

/-- An average of values that are not negative is not negative. -/
theorem ravg_nonneg (A : ℕ → ℕ → ℕ → Ideal .f32) (h : ∀ n k w, (0 : EReal) ≤ A n k w) : (0 : EReal) ≤ (ravg A : Ideal .f32) := by
  show (0 : EReal) ≤ Ideal.div (total A) (cnt : Ideal .f32)
  rw [cnt_eq]
  unfold Ideal.div
  rw [if_neg (by norm_num)]
  refine mul_nonneg (qfold_nonneg _ (fun w => qfold_nonneg _ (fun k => qfold_nonneg _ (fun n => h n k w) 64) 64) 64) ?_
  rw [← EReal.coe_inv]
  exact_mod_cast (by norm_num : (0 : ℝ) ≤ (262144 : ℝ)⁻¹)

/-- The root of a positive number is not zero. -/
theorem sqrt_ne (x : EReal) (h : 0 < x) : Ideal.sqrt x ≠ 0 := by
  induction x with
  | bot => simp at h
  | top => rw [Ideal.sqrt_top]; exact EReal.top_ne_zero
  | coe r =>
    have hr : 0 < r := by exact_mod_cast h
    rw [Ideal.sqrt_coe, if_neg (not_lt.mpr hr.le)]
    exact_mod_cast (Real.sqrt_pos.mpr hr).ne'

/-- A channel's deviation is not zero. -/
theorem rstd_ne (X : ℕ → ℕ → ℕ → ℕ → Ideal .f32) (c : ℕ) : (rstd X c : Ideal .f32) ≠ (0 : EReal) :=
  sqrt_ne _ (lt_of_lt_of_le eps_pos (le_add_of_nonneg_left (ravg_nonneg _ fun n k w => sq_nonneg' (Cert.ReferenceIdeal.Hand.rdev X n c k w))))

/-- Multiplying by one over a number that is not zero is dividing by it. -/
theorem mul_recip (d s : EReal) (h : s ≠ 0) : d * Ideal.div 1 s = Ideal.div d s := by
  unfold Ideal.div
  rw [if_neg h, if_neg h, one_mul]

variable (X : ℕ → ℕ → ℕ → ℕ → Ideal .f32) (Y : ℕ → ℕ → ℕ → Ideal .f32)
  (h : ∀ n c k w, n < 64 → c < 128 → k < 64 → w < 64 → Y n c (64 * k + w) = X n c k w)

include h

/-- The two means agree. -/
theorem mean_eq (c : ℕ) (hc : c < 128) : mean Y c = ravg fun n k w => X n c k w := by
  show q1 (FloatOps.divf (qfold (fun w => qfold (fun k => qfold (fun n => Y n c (64 * k + w)) 64 zer) 64 zer) 64 zer) cnt) = _
  rw [qfold_congr fun w hw => qfold_congr (fun k hk => qfold_congr (fun n hn => h n c k w hn hc hk hw) zer) zer]
  rfl

/-- The two differences from the mean agree. -/
theorem dev_eq (n c k w : ℕ) (hn : n < 64) (hc : c < 128) (hk : k < 64) (hw : w < 64) : dev Y n c (64 * k + w) = Cert.ReferenceIdeal.Hand.rdev X n c k w := by
  unfold dev Cert.ReferenceIdeal.Hand.rdev
  rw [h n c k w hn hc hk hw, mean_eq X Y h c hc]
  show (X n c k w : EReal) - _ = X n c k w + -_
  exact sub_eq_add_neg _ _

/-- The kernel's factor is one over the reference's deviation. -/
theorem rdev_eq (c : ℕ) (hc : c < 128) : Cert.Bn.rdev Y c = Ideal.div 1 (rstd X c) := by
  have e : (avg fun l => sumd Y 64 c l) = ravg fun n k w => sq1 (Cert.ReferenceIdeal.Hand.rdev X n c k w) := by
    show q1 (FloatOps.divf (qfold (fun w => qfold (fun k => qfold (fun n => sq1 (dev Y n c (64 * k + w))) 64 zer) 64 zer) 64 zer) cnt) = _
    rw [qfold_congr fun w hw => qfold_congr (fun k hk => qfold_congr (fun n hn => congrArg sq1 (dev_eq X Y h n c k w hn hc hk hw)) zer) zer]
    rfl
  unfold Cert.Bn.rdev
  rw [e]
  show Ideal.div (one : Ideal .f32) (rstd X c) = _
  rw [one_eq]

/-- The two results agree. -/
theorem res_eq (Wt Bs : ℕ → Ideal .f32) (n c k w : ℕ) (hn : n < 64) (hc : c < 128) (hk : k < 64) (hw : w < 64) :
    res Y Wt Bs n c (64 * k + w) = rres X Wt Bs n c k w := by
  unfold res rres
  rw [dev_eq X Y h n c k w hn hc hk hw, rdev_eq X Y h c hc]
  show (Wt c : EReal) * ((Cert.ReferenceIdeal.Hand.rdev X n c k w : EReal) * Ideal.div 1 (rstd X c)) + Bs c = Wt c * Ideal.div (Cert.ReferenceIdeal.Hand.rdev X n c k w) (rstd X c) + Bs c
  rw [mul_recip _ _ (rstd_ne X c)]

end Cert.Equation
-- ==== Proof.Algebraic.lean ====
/-
  The kernel and the reference end with equal results over the extended reals.
-/
module

public import proofs.«01_k».proof.Proof.Layout
public import proofs.«01_k».proof.Proof.Equation
public import proofs.«01_k».proof.Defs
public import Idealize.ShloMosaic.Lib.Quiescent

@[expose] public section

set_option maxRecDepth 65536

noncomputable section

namespace Cert.Algebraic

open Idealize.ShloMosaic Idealize.ShloMosaic.TcCoe Idealize.SL.Sem
open Cert.Bn Cert.Layout
open Cert.ReferenceIdeal.Hand (tab4 rres)

/-- Every element type has a value. -/
instance nonempty (e : EltTy) : Nonempty (Elt Ideal e) := by
  cases e <;> first | exact ⟨(0 : EReal)⟩ | exact ⟨(0 : BitVec _)⟩

section Kernel

open Cert.KernelIdeal

variable (m : (ℓ : Loc nD τ sig) → Buf (Elt Ideal) ℓ) (c : Dev nD)

/-- The common result: the reference's mathematics at every index. -/
def result : FVec Ideal S64x128x64x64 .f32 := tab4 (rres (X m c) (Wt m c) (Bs m c))

/-- What the kernel leaves is that result. -/
theorem kernel_result :
    shapeCast S64x128x64x64 (tab3 (res (Hand.Xin m c) (Hand.Win m c) (Hand.Bin m c)) : S64x128x4096.Idx → Ideal .f32)
      Facts₀.shapeCasts_S64x128x4096_S64x128x64x64 = result m c := by
  refine (unflatten _ _).trans (funext fun z => ?_)
  refine (Equation.res_eq (X m c) _ (fun n k h w hn hk hh hw => Xin_eq m c n k h w hn hk hh hw) _ _ _ _ _ _ (z 0).isLt (z 1).isLt (z 2).isLt (z 3).isLt).trans ?_
  show rres _ _ _ _ _ _ _ = rres _ _ _ _ _ _ _
  unfold rres
  rw [Win_eq m c _ (z 1).isLt, Bin_eq m c _ (z 1).isLt]

/-- The kernel ends with that result, its arguments unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h.1 c).1.trans (kernel_result m c), (h.1 c).2⟩) (Hand.run m g)

end Kernel

open Cert.ReferenceIdeal in
/-- The reference, on any arguments, runs to its end with the arguments unchanged and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := Ideal)) _ _).mono (fun r h => ⟨fun c => (h c).2, sem_eq_zero_of_no_sems (by decide) r.2⟩)
    (Hand.run_result m g
      (fun c => un4 (a := 64) (b := 128) (c := 64) (d := 64) (m ((c.tc : Thread nD τ).loc main_arg0)))
      (fun c k => un4 (a := 1) (b := 128) (c := 1) (d := 1) (m ((c.tc : Thread nD τ).loc main_arg1)) 0 k 0 0)
      (fun c k => un4 (a := 1) (b := 128) (c := 1) (d := 1) (m ((c.tc : Thread nD τ).loc main_arg2)) 0 k 0 0)
      (fun c => (tab4_un4 (a := 64) (b := 128) (c := 64) (d := 64) _).symm) (fun c => (tab4_channel _).symm) (fun c => (tab4_channel _).symm))

/-- From memories agreeing on the arguments the reference ends with the kernel's result, its arguments unchanged. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal))) ⟨m', fun _ => 0, g'⟩ (fun r => ∀ c : Dev Cert.KernelIdeal.nD,
      r.2.mem ((c.tc : Thread Cert.ReferenceIdeal.nD Cert.ReferenceIdeal.τ).loc Cert.ReferenceIdeal.main_v54) = result m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  Cert.ReferenceIdeal.Hand.run_result m' g' (fun c => X m c) (fun c => Wt m c) (fun c => Bs m c)
    (fun c => (h c).1.trans (tab4_un4 (a := 64) (b := 128) (c := 64) (d := 64) _).symm)
    (fun c => (h c).2.1.trans (tab4_channel _).symm) (fun c => (h c).2.2.trans (tab4_channel _).symm)

end Cert.Algebraic
-- ==== Proof.lean ====
/-
  The certificate's claims: the three programs run with their arguments unchanged and every counter back at zero, and
  the kernel and the reference end with equal results over the extended reals.
-/
module

public import proofs.«01_k».proof.Defs
public import proofs.«01_k».proof.Proof.KernelRun
public import proofs.«01_k».proof.Proof.Algebraic

@[expose] public section

noncomputable section

namespace Cert.Proof

open Idealize.ShloMosaic Idealize.SL.Sem

/-- Every claim of the certificate holds. -/
theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.Algebraic.reference_frame m g,
    trivial,
    fun m g m' g' _ h => ⟨fun c => Cert.Algebraic.result m c, Cert.Algebraic.kernel_run m g, Cert.Algebraic.reference_run m m' g' h⟩⟩

end Cert.Proof

end
